-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_0) = v0 c
          ∧ r.2.mem ((c.tc : Thread Cert.ReferenceIdeal.nD Cert.ReferenceIdeal.τ).loc Cert.ReferenceIdeal.main_v1_1) = v1 c
          ∧ r.2.mem ((c.tc : Thread Cert.ReferenceIdeal.nD Cert.ReferenceIdeal.τ).loc Cert.ReferenceIdeal.main_v1_2) = v2 c
          ∧ r.2.mem ((c.tc : Thread Cert.ReferenceIdeal.nD Cert.ReferenceIdeal.τ).loc Cert.ReferenceIdeal.main_v1_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x2048x4096 : Shape := ⟨3, ![8, 2048, 4096]⟩
abbrev S11008x4096 : Shape := ⟨2, ![11008, 4096]⟩
abbrev S86x32 : Shape := ⟨2, ![86, 32]⟩
abbrev S16384x4096 : Shape := ⟨2, ![16384, 4096]⟩
abbrev S16384x5504 : Shape := ⟨2, ![16384, 5504]⟩
abbrev S16384x43 : Shape := ⟨2, ![16384, 43]⟩
abbrev S16384x32 : Shape := ⟨2, ![16384, 32]⟩
abbrev S1024x4096 : Shape := ⟨2, ![1024, 4096]⟩
abbrev S128x4096 : Shape := ⟨2, ![128, 4096]⟩
abbrev S1024x128 : Shape := ⟨2, ![1024, 128]⟩
abbrev S1024x43 : Shape := ⟨2, ![1024, 43]⟩
abbrev S1024x32 : Shape := ⟨2, ![1024, 32]⟩
abbrev S256x4096 : Shape := ⟨2, ![256, 4096]⟩
abbrev S32x32 : Shape := ⟨2, ![32, 32]⟩
abbrev S32x128 : Shape := ⟨2, ![32, 128]⟩
abbrev S32 : Shape := ⟨1, ![32]⟩
abbrev S32x1 : Shape := ⟨2, ![32, 1]⟩
abbrev S32x247 : Shape := ⟨2, ![32, 247]⟩
abbrev S1x1 : Shape := ⟨2, ![1, 1]⟩
abbrev S128x128 : Shape := ⟨2, ![128, 128]⟩
abbrev S1024x256 : Shape := ⟨2, ![1024, 256]⟩
abbrev S1024 : Shape := ⟨1, ![1024]⟩
abbrev S1024x1 : Shape := ⟨2, ![1024, 1]⟩
abbrev S1024x247 : Shape := ⟨2, ![1024, 247]⟩

abbrev nBuf : Space → Nat
  | .hbm => 8
  | .vmem => 16
  | .smem => 1
  | _ => 0

abbrev bufTy : (tb : Table) → Fin (tcTables nBuf tb) → BufTy
  | .hbm, ⟨0, _⟩ => ⟨S8x2048x4096, .bf16⟩
  | .hbm, ⟨1, _⟩ => ⟨S11008x4096, .fp8e4m3⟩
  | .hbm, ⟨2, _⟩ => ⟨S86x32, .f32⟩
  | .hbm, ⟨3, _⟩ => ⟨S16384x4096, .bf16⟩
  | .hbm, ⟨4, _⟩ => ⟨S16384x5504, .fp8e4m3⟩
  | .hbm, ⟨5, _⟩ => ⟨S16384x43, .f32⟩
  | .hbm, ⟨6, _⟩ => ⟨S16384x4096, .fp8e4m3⟩
  | .hbm, ⟨7, _⟩ => ⟨S16384x32, .f32⟩
  | .local _ .vmem, ⟨0, _⟩ => ⟨S1024x4096, .bf16⟩
  | .local _ .vmem, ⟨1, _⟩ => ⟨S1024x4096, .bf16⟩
  | .local _ .vmem, ⟨2, _⟩ => ⟨S128x4096, .fp8e4m3⟩
  | .local _ .vmem, ⟨3, _⟩ => ⟨S128x4096, .fp8e4m3⟩
  | .local _ .vmem, ⟨4, _⟩ => ⟨S128x4096, .fp8e4m3⟩
  | .local _ .vmem, ⟨5, _⟩ => ⟨S128x4096, .fp8e4m3⟩
  | .local _ .vmem, ⟨6, _⟩ => ⟨S1024x128, .fp8e4m3⟩
  | .local _ .vmem, ⟨7, _⟩ => ⟨S1024x128, .fp8e4m3⟩
  | .local _ .vmem, ⟨8, _⟩ => ⟨S1024x43, .f32⟩
  | .local _ .vmem, ⟨9, _⟩ => ⟨S1024x43, .f32⟩
  | .local _ .vmem, ⟨10, _⟩ => ⟨S1024x4096, .fp8e4m3⟩
  | .local _ .vmem, ⟨11, _⟩ => ⟨S1024x4096, .fp8e4m3⟩
  | .local _ .vmem, ⟨12, _⟩ => ⟨S1024x32, .f32⟩
  | .local _ .vmem, ⟨13, _⟩ => ⟨S1024x32, .f32⟩
  | .local _ .vmem, ⟨14, _⟩ => ⟨S1024x4096, .bf16⟩
  | .local _ .vmem, ⟨15, _⟩ => ⟨S256x4096, .bf16⟩
  | .local _ .smem, ⟨0, _⟩ => ⟨S86x32, .f32⟩
  | _, _ => ⟨S8x2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_stg3_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![16, 43], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_341 : BitVec 32 := 0#32
  let c32_i32 : BitVec 32 := 32#32
  let v763 : BitVec 32 := Scalar.addi c0_i32_341 c32_i32
  let c1_i32 : BitVec 32 := 1#32
  ⟨c0_i32_341, v763, c1_i32⟩
def k0_mult1 (k0_t1 : Fin k0_t1_loop.trips) : BitVec 32 :=
  let c0_i32_341 : BitVec 32 := 0#32
  let c1_i32 : BitVec 32 := 1#32
  let arg12 : BitVec 32 := Scf.iv c0_i32_341 c1_i32 k0_t1
  let c32_i32_343 : BitVec 32 := 32#32
  let v764 : BitVec 32 := Scalar.muli arg12 c32_i32_343
  v764
def k0_off1 (k0_t1 : Fin k0_t1_loop.trips) : Fin 2 → Nat :=
  let c0_i32_341 : BitVec 32 := 0#32
  let c1_i32 : BitVec 32 := 1#32
  let arg12 : BitVec 32 := Scf.iv c0_i32_341 c1_i32 k0_t1
  let c32_i32_343 : BitVec 32 := 32#32
  let v764 : BitVec 32 := Scalar.muli arg12 c32_i32_343
  let v765 : BitVec 32 := v764
  let v768 : Index := Scalar.indexCast v765
  let c0_345 : Index := 0#32
  ![v768.toNat, 0]
def k0_off2 (k0_t1 : Fin k0_t1_loop.trips) : Fin 2 → Nat :=
  let c0_i32_341 : BitVec 32 := 0#32
  let c1_i32 : BitVec 32 := 1#32
  let arg12 : BitVec 32 := Scf.iv c0_i32_341 c1_i32 k0_t1
  let c32_i32_343 : BitVec 32 := 32#32
  let v764 : BitVec 32 := Scalar.muli arg12 c32_i32_343
  let v765 : BitVec 32 := v764
  let v825 : Index := Scalar.indexCast v765
  let c128_363 : Index := 128#32
  ![v825.toNat, 128]
def k0_off3 (k0_t1 : Fin k0_t1_loop.trips) : Fin 2 → Nat :=
  let c0_i32_341 : BitVec 32 := 0#32
  let c1_i32 : BitVec 32 := 1#32
  let arg12 : BitVec 32 := Scf.iv c0_i32_341 c1_i32 k0_t1
  let c32_i32_343 : BitVec 32 := 32#32
  let v764 : BitVec 32 := Scalar.muli arg12 c32_i32_343
  let v765 : BitVec 32 := v764
  let v882 : Index := Scalar.indexCast v765
  let c256_381 : Index := 256#32
  ![v882.toNat, 256]
def k0_off4 (k0_t1 : Fin k0_t1_loop.trips) : Fin 2 → Nat :=
  let c0_i32_341 : BitVec 32 := 0#32
  let c1_i32 : BitVec 32 := 1#32
  let arg12 : BitVec 32 := Scf.iv c0_i32_341 c1_i32 k0_t1
  let c32_i32_343 : BitVec 32 := 32#32
  let v764 : BitVec 32 := Scalar.muli arg12 c32_i32_343
  let v765 : BitVec 32 := v764
  let v939 : Index := Scalar.indexCast v765
  let c384_398 : Index := 384#32
  ![v939.toNat, 384]
def k0_off5 (k0_t1 : Fin k0_t1_loop.trips) : Fin 2 → Nat :=
  let c0_i32_341 : BitVec 32 := 0#32
  let c1_i32 : BitVec 32 := 1#32
  let arg12 : BitVec 32 := Scf.iv c0_i32_341 c1_i32 k0_t1
  let c32_i32_343 : BitVec 32 := 32#32
  let v764 : BitVec 32 := Scalar.muli arg12 c32_i32_343
  let v765 : BitVec 32 := v764
  let v996 : Index := Scalar.indexCast v765
  let c512_415 : Index := 512#32
  ![v996.toNat, 512]
def k0_off6 (k0_t1 : Fin k0_t1_loop.trips) : Fin 2 → Nat :=
  let c0_i32_341 : BitVec 32 := 0#32
  let c1_i32 : BitVec 32 := 1#32
  let arg12 : BitVec 32 := Scf.iv c0_i32_341 c1_i32 k0_t1
  let c32_i32_343 : BitVec 32 := 32#32
  let v764 : BitVec 32 := Scalar.muli arg12 c32_i32_343
  let v765 : BitVec 32 := v764
  let v1053 : Index := Scalar.indexCast v765
  let c640_432 : Index := 640#32
  ![v1053.toNat, 640]
def k0_off7 (k0_t1 : Fin k0_t1_loop.trips) : Fin 2 → Nat :=
  let c0_i32_341 : BitVec 32 := 0#32
  let c1_i32 : BitVec 32 := 1#32
  let arg12 : BitVec 32 := Scf.iv c0_i32_341 c1_i32 k0_t1
  let c32_i32_343 : BitVec 32 := 32#32
  let v764 : BitVec 32 := Scalar.muli arg12 c32_i32_343
  let v765 : BitVec 32 := v764
  let v1110 : Index := Scalar.indexCast v765
  let c768_449 : Index := 768#32
  ![v1110.toNat, 768]
def k0_off8 (k0_t1 : Fin k0_t1_loop.trips) : Fin 2 → Nat :=
  let c0_i32_341 : BitVec 32 := 0#32
  let c1_i32 : BitVec 32 := 1#32
  let arg12 : BitVec 32 := Scf.iv c0_i32_341 c1_i32 k0_t1
  let c32_i32_343 : BitVec 32 := 32#32
  let v764 : BitVec 32 := Scalar.muli arg12 c32_i32_343
  let v765 : BitVec 32 := v764
  let v1167 : Index := Scalar.indexCast v765
  let c896_466 : Index := 896#32
  ![v1167.toNat, 896]
def k0_off9 (k0_t1 : Fin k0_t1_loop.trips) : Fin 2 → Nat :=
  let c0_i32_341 : BitVec 32 := 0#32
  let c1_i32 : BitVec 32 := 1#32
  let arg12 : BitVec 32 := Scf.iv c0_i32_341 c1_i32 k0_t1
  let c32_i32_343 : BitVec 32 := 32#32
  let v764 : BitVec 32 := Scalar.muli arg12 c32_i32_343
  let v765 : BitVec 32 := v764
  let v1224 : Index := Scalar.indexCast v765
  let c1024_483 : Index := 1024#32
  ![v1224.toNat, 1024]
def k0_off10 (k0_t1 : Fin k0_t1_loop.trips) : Fin 2 → Nat :=
  let c0_i32_341 : BitVec 32 := 0#32
  let c1_i32 : BitVec 32 := 1#32
  let arg12 : BitVec 32 := Scf.iv c0_i32_341 c1_i32 k0_t1
  let c32_i32_343 : BitVec 32 := 32#32
  let v764 : BitVec 32 := Scalar.muli arg12 c32_i32_343
  let v765 : BitVec 32 := v764
  let v1281 : Index := Scalar.indexCast v765
  let c1152_500 : Index := 1152#32
  ![v1281.toNat, 1152]
def k0_off11 (k0_t1 : Fin k0_t1_loop.trips) : Fin 2 → Nat :=
  let c0_i32_341 : BitVec 32 := 0#32
  let c1_i32 : BitVec 32 := 1#32
  let arg12 : BitVec 32 := Scf.iv c0_i32_341 c1_i32 k0_t1
  let c32_i32_343 : BitVec 32 := 32#32
  let v764 : BitVec 32 := Scalar.muli arg12 c32_i32_343
  let v765 : BitVec 32 := v764
  let v1338 : Index := Scalar.indexCast v765
  let c1280_517 : Index := 1280#32
  ![v1338.toNat, 1280]
def k0_off12 (k0_t1 : Fin k0_t1_loop.trips) : Fin 2 → Nat :=
  let c0_i32_341 : BitVec 32 := 0#32
  let c1_i32 : BitVec 32 := 1#32
  let arg12 : BitVec 32 := Scf.iv c0_i32_341 c1_i32 k0_t1
  let c32_i32_343 : BitVec 32 := 32#32
  let v764 : BitVec 32 := Scalar.muli arg12 c32_i32_343
  let v765 : BitVec 32 := v764
  let v1395 : Index := Scalar.indexCast v765
  let c1408_534 : Index := 1408#32
  ![v1395.toNat, 1408]
def k0_off13 (k0_t1 : Fin k0_t1_loop.trips) : Fin 2 → Nat :=
  let c0_i32_341 : BitVec 32 := 0#32
  let c1_i32 : BitVec 32 := 1#32
  let arg12 : BitVec 32 := Scf.iv c0_i32_341 c1_i32 k0_t1
  let c32_i32_343 : BitVec 32 := 32#32
  let v764 : BitVec 32 := Scalar.muli arg12 c32_i32_343
  let v765 : BitVec 32 := v764
  let v1452 : Index := Scalar.indexCast v765
  let c1536_551 : Index := 1536#32
  ![v1452.toNat, 1536]
def k0_off14 (k0_t1 : Fin k0_t1_loop.trips) : Fin 2 → Nat :=
  let c0_i32_341 : BitVec 32 := 0#32
  let c1_i32 : BitVec 32 := 1#32
  let arg12 : BitVec 32 := Scf.iv c0_i32_341 c1_i32 k0_t1
  let c32_i32_343 : BitVec 32 := 32#32
  let v764 : BitVec 32 := Scalar.muli arg12 c32_i32_343
  let v765 : BitVec 32 := v764
  let v1509 : Index := Scalar.indexCast v765
  let c1664_568 : Index := 1664#32
  ![v1509.toNat, 1664]
def k0_off15 (k0_t1 : Fin k0_t1_loop.trips) : Fin 2 → Nat :=
  let c0_i32_341 : BitVec 32 := 0#32
  let c1_i32 : BitVec 32 := 1#32
  let arg12 : BitVec 32 := Scf.iv c0_i32_341 c1_i32 k0_t1
  let c32_i32_343 : BitVec 32 := 32#32
  let v764 : BitVec 32 := Scalar.muli arg12 c32_i32_343
  let v765 : BitVec 32 := v764
  let v1566 : Index := Scalar.indexCast v765
  let c1792_585 : Index := 1792#32
  ![v1566.toNat, 1792]
def k0_off16 (k0_t1 : Fin k0_t1_loop.trips) : Fin 2 → Nat :=
  let c0_i32_341 : BitVec 32 := 0#32
  let c1_i32 : BitVec 32 := 1#32
  let arg12 : BitVec 32 := Scf.iv c0_i32_341 c1_i32 k0_t1
  let c32_i32_343 : BitVec 32 := 32#32
  let v764 : BitVec 32 := Scalar.muli arg12 c32_i32_343
  let v765 : BitVec 32 := v764
  let v1623 : Index := Scalar.indexCast v765
  let c1920_602 : Index := 1920#32
  ![v1623.toNat, 1920]
def k0_off17 (k0_t1 : Fin k0_t1_loop.trips) : Fin 2 → Nat :=
  let c0_i32_341 : BitVec 32 := 0#32
  let c1_i32 : BitVec 32 := 1#32
  let arg12 : BitVec 32 := Scf.iv c0_i32_341 c1_i32 k0_t1
  let c32_i32_343 : BitVec 32 := 32#32
  let v764 : BitVec 32 := Scalar.muli arg12 c32_i32_343
  let v765 : BitVec 32 := v764
  let v1680 : Index := Scalar.indexCast v765
  let c2048_619 : Index := 2048#32
  ![v1680.toNat, 2048]
def k0_off18 (k0_t1 : Fin k0_t1_loop.trips) : Fin 2 → Nat :=
  let c0_i32_341 : BitVec 32 := 0#32
  let c1_i32 : BitVec 32 := 1#32
  let arg12 : BitVec 32 := Scf.iv c0_i32_341 c1_i32 k0_t1
  let c32_i32_343 : BitVec 32 := 32#32
  let v764 : BitVec 32 := Scalar.muli arg12 c32_i32_343
  let v765 : BitVec 32 := v764
  let v1737 : Index := Scalar.indexCast v765
  let c2176_636 : Index := 2176#32
  ![v1737.toNat, 2176]
def k0_off19 (k0_t1 : Fin k0_t1_loop.trips) : Fin 2 → Nat :=
  let c0_i32_341 : BitVec 32 := 0#32
  let c1_i32 : BitVec 32 := 1#32
  let arg12 : BitVec 32 := Scf.iv c0_i32_341 c1_i32 k0_t1
  let c32_i32_343 : BitVec 32 := 32#32
  let v764 : BitVec 32 := Scalar.muli arg12 c32_i32_343
  let v765 : BitVec 32 := v764
  let v1794 : Index := Scalar.indexCast v765
  let c2304_653 : Index := 2304#32
  ![v1794.toNat, 2304]
def k0_off20 (k0_t1 : Fin k0_t1_loop.trips) : Fin 2 → Nat :=
  let c0_i32_341 : BitVec 32 := 0#32
  let c1_i32 : BitVec 32 := 1#32
  let arg12 : BitVec 32 := Scf.iv c0_i32_341 c1_i32 k0_t1
  let c32_i32_343 : BitVec 32 := 32#32
  let v764 : BitVec 32 := Scalar.muli arg12 c32_i32_343
  let v765 : BitVec 32 := v764
  let v1851 : Index := Scalar.indexCast v765
  let c2432_670 : Index := 2432#32
  ![v1851.toNat, 2432]
def k0_off21 (k0_t1 : Fin k0_t1_loop.trips) : Fin 2 → Nat :=
  let c0_i32_341 : BitVec 32 := 0#32
  let c1_i32 : BitVec 32 := 1#32
  let arg12 : BitVec 32 := Scf.iv c0_i32_341 c1_i32 k0_t1
  let c32_i32_343 : BitVec 32 := 32#32
  let v764 : BitVec 32 := Scalar.muli arg12 c32_i32_343
  let v765 : BitVec 32 := v764
  let v1908 : Index := Scalar.indexCast v765
  let c2560_687 : Index := 2560#32
  ![v1908.toNat, 2560]
def k0_off22 (k0_t1 : Fin k0_t1_loop.trips) : Fin 2 → Nat :=
  let c0_i32_341 : BitVec 32 := 0#32
  let c1_i32 : BitVec 32 := 1#32
  let arg12 : BitVec 32 := Scf.iv c0_i32_341 c1_i32 k0_t1
  let c32_i32_343 : BitVec 32 := 32#32
  let v764 : BitVec 32 := Scalar.muli arg12 c32_i32_343
  let v765 : BitVec 32 := v764
  let v1965 : Index := Scalar.indexCast v765
  let c2688_704 : Index := 2688#32
  ![v1965.toNat, 2688]
def k0_off23 (k0_t1 : Fin k0_t1_loop.trips) : Fin 2 → Nat :=
  let c0_i32_341 : BitVec 32 := 0#32
  let c1_i32 : BitVec 32 := 1#32
  let arg12 : BitVec 32 := Scf.iv c0_i32_341 c1_i32 k0_t1
  let c32_i32_343 : BitVec 32 := 32#32
  let v764 : BitVec 32 := Scalar.muli arg12 c32_i32_343
  let v765 : BitVec 32 := v764
  let v2022 : Index := Scalar.indexCast v765
  let c2816_721 : Index := 2816#32
  ![v2022.toNat, 2816]
def k0_off24 (k0_t1 : Fin k0_t1_loop.trips) : Fin 2 → Nat :=
  let c0_i32_341 : BitVec 32 := 0#32
  let c1_i32 : BitVec 32 := 1#32
  let arg12 : BitVec 32 := Scf.iv c0_i32_341 c1_i32 k0_t1
  let c32_i32_343 : BitVec 32 := 32#32
  let v764 : BitVec 32 := Scalar.muli arg12 c32_i32_343
  let v765 : BitVec 32 := v764
  let v2079 : Index := Scalar.indexCast v765
  let c2944_738 : Index := 2944#32
  ![v2079.toNat, 2944]
def k0_off25 (k0_t1 : Fin k0_t1_loop.trips) : Fin 2 → Nat :=
  let c0_i32_341 : BitVec 32 := 0#32
  let c1_i32 : BitVec 32 := 1#32
  let arg12 : BitVec 32 := Scf.iv c0_i32_341 c1_i32 k0_t1
  let c32_i32_343 : BitVec 32 := 32#32
  let v764 : BitVec 32 := Scalar.muli arg12 c32_i32_343
  let v765 : BitVec 32 := v764
  let v2136 : Index := Scalar.indexCast v765
  let c3072_755 : Index := 3072#32
  ![v2136.toNat, 3072]
def k0_off26 (k0_t1 : Fin k0_t1_loop.trips) : Fin 2 → Nat :=
  let c0_i32_341 : BitVec 32 := 0#32
  let c1_i32 : BitVec 32 := 1#32
  let arg12 : BitVec 32 := Scf.iv c0_i32_341 c1_i32 k0_t1
  let c32_i32_343 : BitVec 32 := 32#32
  let v764 : BitVec 32 := Scalar.muli arg12 c32_i32_343
  let v765 : BitVec 32 := v764
  let v2193 : Index := Scalar.indexCast v765
  let c3200_772 : Index := 3200#32
  ![v2193.toNat, 3200]
def k0_off27 (k0_t1 : Fin k0_t1_loop.trips) : Fin 2 → Nat :=
  let c0_i32_341 : BitVec 32 := 0#32
  let c1_i32 : BitVec 32 := 1#32
  let arg12 : BitVec 32 := Scf.iv c0_i32_341 c1_i32 k0_t1
  let c32_i32_343 : BitVec 32 := 32#32
  let v764 : BitVec 32 := Scalar.muli arg12 c32_i32_343
  let v765 : BitVec 32 := v764
  let v2250 : Index := Scalar.indexCast v765
  let c3328_789 : Index := 3328#32
  ![v2250.toNat, 3328]
def k0_off28 (k0_t1 : Fin k0_t1_loop.trips) : Fin 2 → Nat :=
  let c0_i32_341 : BitVec 32 := 0#32
  let c1_i32 : BitVec 32 := 1#32
  let arg12 : BitVec 32 := Scf.iv c0_i32_341 c1_i32 k0_t1
  let c32_i32_343 : BitVec 32 := 32#32
  let v764 : BitVec 32 := Scalar.muli arg12 c32_i32_343
  let v765 : BitVec 32 := v764
  let v2307 : Index := Scalar.indexCast v765
  let c3456_806 : Index := 3456#32
  ![v2307.toNat, 3456]
def k0_off29 (k0_t1 : Fin k0_t1_loop.trips) : Fin 2 → Nat :=
  let c0_i32_341 : BitVec 32 := 0#32
  let c1_i32 : BitVec 32 := 1#32
  let arg12 : BitVec 32 := Scf.iv c0_i32_341 c1_i32 k0_t1
  let c32_i32_343 : BitVec 32 := 32#32
  let v764 : BitVec 32 := Scalar.muli arg12 c32_i32_343
  let v765 : BitVec 32 := v764
  let v2364 : Index := Scalar.indexCast v765
  let c3584_823 : Index := 3584#32
  ![v2364.toNat, 3584]
def k0_off30 (k0_t1 : Fin k0_t1_loop.trips) : Fin 2 → Nat :=
  let c0_i32_341 : BitVec 32 := 0#32
  let c1_i32 : BitVec 32 := 1#32
  let arg12 : BitVec 32 := Scf.iv c0_i32_341 c1_i32 k0_t1
  let c32_i32_343 : BitVec 32 := 32#32
  let v764 : BitVec 32 := Scalar.muli arg12 c32_i32_343
  let v765 : BitVec 32 := v764
  let v2421 : Index := Scalar.indexCast v765
  let c3712_840 : Index := 3712#32
  ![v2421.toNat, 3712]
def k0_off31 (k0_t1 : Fin k0_t1_loop.trips) : Fin 2 → Nat :=
  let c0_i32_341 : BitVec 32 := 0#32
  let c1_i32 : BitVec 32 := 1#32
  let arg12 : BitVec 32 := Scf.iv c0_i32_341 c1_i32 k0_t1
  let c32_i32_343 : BitVec 32 := 32#32
  let v764 : BitVec 32 := Scalar.muli arg12 c32_i32_343
  let v765 : BitVec 32 := v764
  let v2478 : Index := Scalar.indexCast v765
  let c3840_857 : Index := 3840#32
  ![v2478.toNat, 3840]
def k0_off32 (k0_t1 : Fin k0_t1_loop.trips) : Fin 2 → Nat :=
  let c0_i32_341 : BitVec 32 := 0#32
  let c1_i32 : BitVec 32 := 1#32
  let arg12 : BitVec 32 := Scf.iv c0_i32_341 c1_i32 k0_t1
  let c32_i32_343 : BitVec 32 := 32#32
  let v764 : BitVec 32 := Scalar.muli arg12 c32_i32_343
  let v765 : BitVec 32 := v764
  let v2535 : Index := Scalar.indexCast v765
  let c3968_874 : Index := 3968#32
  ![v2535.toNat, 3968]
def k0_off33 (k0_t1 : Fin k0_t1_loop.trips) : Fin 2 → Nat :=
  let c0_i32_341 : BitVec 32 := 0#32
  let c1_i32 : BitVec 32 := 1#32
  let arg12 : BitVec 32 := Scf.iv c0_i32_341 c1_i32 k0_t1
  let c32_i32_343 : BitVec 32 := 32#32
  let v764 : BitVec 32 := Scalar.muli arg12 c32_i32_343
  let v765 : BitVec 32 := v764
  let v2592 : Index := Scalar.indexCast v765
  let c0_891 : Index := 0#32
  ![v2592.toNat, 0]
def k0_off34 (i : grid0.Coords) (c0_i32_1 : BitVec 32) : Fin 2 → Nat :=
  let arg1 : BitVec 32 := BitVec.ofNat 32 (i 1).val
  let v3 : BitVec 32 := Scalar.addi arg1 c0_i32_1
  let v4 : Index := Scalar.indexCast v3
  let c0 : Index := 0#32
  ![v4.toNat, 0]
def k0_off35 (i : grid0.Coords) (c0_i32_10 : BitVec 32) : Fin 2 → Nat :=
  let arg1 : BitVec 32 := BitVec.ofNat 32 (i 1).val
  let v25 : BitVec 32 := Scalar.addi arg1 c0_i32_10
  let v26 : Index := Scalar.indexCast v25
  let c1 : Index := 1#32
  ![v26.toNat, 1]
def k0_off36 (i : grid0.Coords) (c0_i32_21 : BitVec 32) : Fin 2 → Nat :=
  let arg1 : BitVec 32 := BitVec.ofNat 32 (i 1).val
  let v47 : BitVec 32 := Scalar.addi arg1 c0_i32_21
  let v48 : Index := Scalar.indexCast v47
  let c2 : Index := 2#32
  ![v48.toNat, 2]
def k0_off37 (i : grid0.Coords) (c0_i32_31 : BitVec 32) : Fin 2 → Nat :=
  let arg1 : BitVec 32 := BitVec.ofNat 32 (i 1).val
  let v69 : BitVec 32 := Scalar.addi arg1 c0_i32_31
  let v70 : Index := Scalar.indexCast v69
  let c3 : Index := 3#32
  ![v70.toNat, 3]
def k0_off38 (i : grid0.Coords) (c0_i32_41 : BitVec 32) : Fin 2 → Nat :=
  let arg1 : BitVec 32 := BitVec.ofNat 32 (i 1).val
  let v91 : BitVec 32 := Scalar.addi arg1 c0_i32_41
  let v92 : Index := Scalar.indexCast v91
  let c4 : Index := 4#32
  ![v92.toNat, 4]
def k0_off39 (i : grid0.Coords) (c0_i32_51 : BitVec 32) : Fin 2 → Nat :=
  let arg1 : BitVec 32 := BitVec.ofNat 32 (i 1).val
  let v113 : BitVec 32 := Scalar.addi arg1 c0_i32_51
  let v114 : Index := Scalar.indexCast v113
  let c5 : Index := 5#32
  ![v114.toNat, 5]
def k0_off40 (i : grid0.Coords) (c0_i32_61 : BitVec 32) : Fin 2 → Nat :=
  let arg1 : BitVec 32 := BitVec.ofNat 32 (i 1).val
  let v135 : BitVec 32 := Scalar.addi arg1 c0_i32_61
  let v136 : Index := Scalar.indexCast v135
  let c6 : Index := 6#32
  ![v136.toNat, 6]
def k0_off41 (i : grid0.Coords) (c0_i32_71 : BitVec 32) : Fin 2 → Nat :=
  let arg1 : BitVec 32 := BitVec.ofNat 32 (i 1).val
  let v157 : BitVec 32 := Scalar.addi arg1 c0_i32_71
  let v158 : Index := Scalar.indexCast v157
  let c7 : Index := 7#32
  ![v158.toNat, 7]
def k0_off42 (i : grid0.Coords) (c0_i32_81 : BitVec 32) : Fin 2 → Nat :=
  let arg1 : BitVec 32 := BitVec.ofNat 32 (i 1).val
  let v179 : BitVec 32 := Scalar.addi arg1 c0_i32_81
  let v180 : Index := Scalar.indexCast v179
  let c8 : Index := 8#32
  ![v180.toNat, 8]
def k0_off43 (i : grid0.Coords) (c0_i32_91 : BitVec 32) : Fin 2 → Nat :=
  let arg1 : BitVec 32 := BitVec.ofNat 32 (i 1).val
  let v201 : BitVec 32 := Scalar.addi arg1 c0_i32_91
  let v202 : Index := Scalar.indexCast v201
  let c9 : Index := 9#32
  ![v202.toNat, 9]
def k0_off44 (i : grid0.Coords) (c0_i32_101 : BitVec 32) : Fin 2 → Nat :=
  let arg1 : BitVec 32 := BitVec.ofNat 32 (i 1).val
  let v223 : BitVec 32 := Scalar.addi arg1 c0_i32_101
  let v224 : Index := Scalar.indexCast v223
  let c10 : Index := 10#32
  ![v224.toNat, 10]
def k0_off45 (i : grid0.Coords) (c0_i32_111 : BitVec 32) : Fin 2 → Nat :=
  let arg1 : BitVec 32 := BitVec.ofNat 32 (i 1).val
  let v245 : BitVec 32 := Scalar.addi arg1 c0_i32_111
  let v246 : Index := Scalar.indexCast v245
  let c11 : Index := 11#32
  ![v246.toNat, 11]
def k0_off46 (i : grid0.Coords) (c0_i32_121 : BitVec 32) : Fin 2 → Nat :=
  let arg1 : BitVec 32 := BitVec.ofNat 32 (i 1).val
  let v267 : BitVec 32 := Scalar.addi arg1 c0_i32_121
  let v268 : Index := Scalar.indexCast v267
  let c12 : Index := 12#32
  ![v268.toNat, 12]
def k0_off47 (i : grid0.Coords) (c0_i32_131 : BitVec 32) : Fin 2 → Nat :=
  let arg1 : BitVec 32 := BitVec.ofNat 32 (i 1).val
  let v289 : BitVec 32 := Scalar.addi arg1 c0_i32_131
  let v290 : Index := Scalar.indexCast v289
  let c13 : Index := 13#32
  ![v290.toNat, 13]
def k0_off48 (i : grid0.Coords) (c0_i32_141 : BitVec 32) : Fin 2 → Nat :=
  let arg1 : BitVec 32 := BitVec.ofNat 32 (i 1).val
  let v311 : BitVec 32 := Scalar.addi arg1 c0_i32_141
  let v312 : Index := Scalar.indexCast v311
  let c14 : Index := 14#32
  ![v312.toNat, 14]
def k0_off49 (i : grid0.Coords) (c0_i32_151 : BitVec 32) : Fin 2 → Nat :=
  let arg1 : BitVec 32 := BitVec.ofNat 32 (i 1).val
  let v333 : BitVec 32 := Scalar.addi arg1 c0_i32_151
  let v334 : Index := Scalar.indexCast v333
  let c15 : Index := 15#32
  ![v334.toNat, 15]
def k0_off50 (i : grid0.Coords) (c0_i32_161 : BitVec 32) : Fin 2 → Nat :=
  let arg1 : BitVec 32 := BitVec.ofNat 32 (i 1).val
  let v355 : BitVec 32 := Scalar.addi arg1 c0_i32_161
  let v356 : Index := Scalar.indexCast v355
  let c16 : Index := 16#32
  ![v356.toNat, 16]
def k0_off51 (i : grid0.Coords) (c0_i32_171 : BitVec 32) : Fin 2 → Nat :=
  let arg1 : BitVec 32 := BitVec.ofNat 32 (i 1).val
  let v377 : BitVec 32 := Scalar.addi arg1 c0_i32_171
  let v378 : Index := Scalar.indexCast v377
  let c17 : Index := 17#32
  ![v378.toNat, 17]
def k0_off52 (i : grid0.Coords) (c0_i32_181 : BitVec 32) : Fin 2 → Nat :=
  let arg1 : BitVec 32 := BitVec.ofNat 32 (i 1).val
  let v399 : BitVec 32 := Scalar.addi arg1 c0_i32_181
  let v400 : Index := Scalar.indexCast v399
  let c18 : Index := 18#32
  ![v400.toNat, 18]
def k0_off53 (i : grid0.Coords) (c0_i32_191 : BitVec 32) : Fin 2 → Nat :=
  let arg1 : BitVec 32 := BitVec.ofNat 32 (i 1).val
  let v421 : BitVec 32 := Scalar.addi arg1 c0_i32_191
  let v422 : Index := Scalar.indexCast v421
  let c19 : Index := 19#32
  ![v422.toNat, 19]
def k0_off54 (i : grid0.Coords) (c0_i32_201 : BitVec 32) : Fin 2 → Nat :=
  let arg1 : BitVec 32 := BitVec.ofNat 32 (i 1).val
  let v443 : BitVec 32 := Scalar.addi arg1 c0_i32_201
  let v444 : Index := Scalar.indexCast v443
  let c20 : Index := 20#32
  ![v444.toNat, 20]
def k0_off55 (i : grid0.Coords) (c0_i32_211 : BitVec 32) : Fin 2 → Nat :=
  let arg1 : BitVec 32 := BitVec.ofNat 32 (i 1).val
  let v465 : BitVec 32 := Scalar.addi arg1 c0_i32_211
  let v466 : Index := Scalar.indexCast v465
  let c21 : Index := 21#32
  ![v466.toNat, 21]
def k0_off56 (i : grid0.Coords) (c0_i32_221 : BitVec 32) : Fin 2 → Nat :=
  let arg1 : BitVec 32 := BitVec.ofNat 32 (i 1).val
  let v487 : BitVec 32 := Scalar.addi arg1 c0_i32_221
  let v488 : Index := Scalar.indexCast v487
  let c22 : Index := 22#32
  ![v488.toNat, 22]
def k0_off57 (i : grid0.Coords) (c0_i32_231 : BitVec 32) : Fin 2 → Nat :=
  let arg1 : BitVec 32 := BitVec.ofNat 32 (i 1).val
  let v509 : BitVec 32 := Scalar.addi arg1 c0_i32_231
  let v510 : Index := Scalar.indexCast v509
  let c23 : Index := 23#32
  ![v510.toNat, 23]
def k0_off58 (i : grid0.Coords) (c0_i32_241 : BitVec 32) : Fin 2 → Nat :=
  let arg1 : BitVec 32 := BitVec.ofNat 32 (i 1).val
  let v531 : BitVec 32 := Scalar.addi arg1 c0_i32_241
  let v532 : Index := Scalar.indexCast v531
  let c24 : Index := 24#32
  ![v532.toNat, 24]
def k0_off59 (i : grid0.Coords) (c0_i32_251 : BitVec 32) : Fin 2 → Nat :=
  let arg1 : BitVec 32 := BitVec.ofNat 32 (i 1).val
  let v553 : BitVec 32 := Scalar.addi arg1 c0_i32_251
  let v554 : Index := Scalar.indexCast v553
  let c25 : Index := 25#32
  ![v554.toNat, 25]
def k0_off60 (i : grid0.Coords) (c0_i32_261 : BitVec 32) : Fin 2 → Nat :=
  let arg1 : BitVec 32 := BitVec.ofNat 32 (i 1).val
  let v575 : BitVec 32 := Scalar.addi arg1 c0_i32_261
  let v576 : Index := Scalar.indexCast v575
  let c26 : Index := 26#32
  ![v576.toNat, 26]
def k0_off61 (i : grid0.Coords) (c0_i32_271 : BitVec 32) : Fin 2 → Nat :=
  let arg1 : BitVec 32 := BitVec.ofNat 32 (i 1).val
  let v597 : BitVec 32 := Scalar.addi arg1 c0_i32_271
  let v598 : Index := Scalar.indexCast v597
  let c27 : Index := 27#32
  ![v598.toNat, 27]
def k0_off62 (i : grid0.Coords) (c0_i32_281 : BitVec 32) : Fin 2 → Nat :=
  let arg1 : BitVec 32 := BitVec.ofNat 32 (i 1).val
  let v619 : BitVec 32 := Scalar.addi arg1 c0_i32_281
  let v620 : Index := Scalar.indexCast v619
  let c28 : Index := 28#32
  ![v620.toNat, 28]
def k0_off63 (i : grid0.Coords) (c0_i32_291 : BitVec 32) : Fin 2 → Nat :=
  let arg1 : BitVec 32 := BitVec.ofNat 32 (i 1).val
  let v641 : BitVec 32 := Scalar.addi arg1 c0_i32_291
  let v642 : Index := Scalar.indexCast v641
  let c29 : Index := 29#32
  ![v642.toNat, 29]
def k0_off64 (i : grid0.Coords) (c0_i32_301 : BitVec 32) : Fin 2 → Nat :=
  let arg1 : BitVec 32 := BitVec.ofNat 32 (i 1).val
  let v663 : BitVec 32 := Scalar.addi arg1 c0_i32_301
  let v664 : Index := Scalar.indexCast v663
  let c30 : Index := 30#32
  ![v664.toNat, 30]
def k0_off65 (i : grid0.Coords) (c0_i32_311 : BitVec 32) : Fin 2 → Nat :=
  let arg1 : BitVec 32 := BitVec.ofNat 32 (i 1).val
  let v685 : BitVec 32 := Scalar.addi arg1 c0_i32_311
  let v686 : Index := Scalar.indexCast v685
  let c31 : Index := 31#32
  ![v686.toNat, 31]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.addi c43_i32 arg1
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x4096 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x4096 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .smem S86x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x43 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x4096 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x32 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
abbrev S8x2048x4096 : Shape := ⟨3, ![8, 2048, 4096]⟩
abbrev S11008x4096 : Shape := ⟨2, ![11008, 4096]⟩
abbrev S86x32 : Shape := ⟨2, ![86, 32]⟩
abbrev S16384x4096 : Shape := ⟨2, ![16384, 4096]⟩
abbrev S16384x5504 : Shape := ⟨2, ![16384, 5504]⟩
abbrev S16384x43 : Shape := ⟨2, ![16384, 43]⟩
abbrev S16384x32 : Shape := ⟨2, ![16384, 32]⟩
abbrev S16384x32x128 : Shape := ⟨3, ![16384, 32, 128]⟩
abbrev S16384x32x246 : Shape := ⟨3, ![16384, 32, 246]⟩
abbrev S16384x32x1 : Shape := ⟨3, ![16384, 32, 1]⟩
abbrev S86x128x32x128 : Shape := ⟨4, ![86, 128, 32, 128]⟩
abbrev S86x1x32x1 : Shape := ⟨4, ![86, 1, 32, 1]⟩
abbrev S16384x11008 : Shape := ⟨2, ![16384, 11008]⟩
abbrev S16384x43x128 : Shape := ⟨3, ![16384, 43, 128]⟩
abbrev S16384x43x246 : Shape := ⟨3, ![16384, 43, 246]⟩
abbrev S16384x43x1 : Shape := ⟨3, ![16384, 43, 1]⟩

abbrev nBuf : Space → Nat
  | .hbm => 8
  | .vmem => 7
  | .smem => 0
  | _ => 0

abbrev bufTy : (tb : Table) → Fin (tcTables nBuf tb) → BufTy
  | .hbm, ⟨0, _⟩ => ⟨S8x2048x4096, .bf16⟩
  | .hbm, ⟨1, _⟩ => ⟨S11008x4096, .fp8e4m3⟩
  | .hbm, ⟨2, _⟩ => ⟨S86x32, .f32⟩
  | .hbm, ⟨3, _⟩ => ⟨S16384x4096, .bf16⟩
  | .hbm, ⟨4, _⟩ => ⟨S16384x5504, .fp8e4m3⟩
  | .hbm, ⟨5, _⟩ => ⟨S16384x43, .f32⟩
  | .hbm, ⟨6, _⟩ => ⟨S16384x4096, .fp8e4m3⟩
  | .hbm, ⟨7, _⟩ => ⟨S16384x32, .f32⟩
  | .local _ .vmem, ⟨0, _⟩ => ⟨S16384x4096, .bf16⟩
  | .local _ .vmem, ⟨1, _⟩ => ⟨S11008x4096, .fp8e4m3⟩
  | .local _ .vmem, ⟨2, _⟩ => ⟨S86x32, .f32⟩
  | .local _ .vmem, ⟨3, _⟩ => ⟨S16384x5504, .fp8e4m3⟩
  | .local _ .vmem, ⟨4, _⟩ => ⟨S16384x43, .f32⟩
  | .local _ .vmem, ⟨5, _⟩ => ⟨S16384x4096, .fp8e4m3⟩
  | .local _ .vmem, ⟨6, _⟩ => ⟨S16384x32, .f32⟩
  | _, _ => ⟨S8x2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S16384x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S11008x4096 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S86x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16384x5504 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16384x43 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16384x4096 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16384x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.KernelRuns.lean ====
/- What the runs of the kernel's body share: the branch condition in closed form, the staging and scratch memrefs,
   and the frame claim's post from a run over relational proof data. -/
module

public import proofs.«01_k».proof.Proof.Gen.Kernel.Frame
public import proofs.«01_k».proof.Proof.Gen.Kernel.Skeleton
public import proofs.«01_k».proof.Proof.Gen.Kernel.Loops
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of_rel (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (Pipeline.mem_restRefs_of main_arg0 (by decide) (by decide))).trans (V_main_arg0 m c),
      (Pipeline.RDat.FramePost.arr_in h c 2 rfl).trans ((hA c 2).trans (V_main_arg1 m c)),
      (Pipeline.RDat.FramePost.arr_in h c 3 rfl).trans ((hA c 3).trans (V_main_arg2 m c))⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 43) — by arithmetic of the point. -/
theorem hcond0_0 : ∀ t : Fin cfg0.N, cond0_0 (grid0.coords t) ↔ t.val % 43 = 0 :=
  (fun t => by
    have ht : t.val < 688 := Nat.lt_of_lt_of_eq t.isLt N_0
    have e0 : (grid0.coords t 0).val = t.val / 43 % 16 := Pipeline.Grid.coords_val t 0 (by decide) rfl
    have e1 : (grid0.coords t 1).val = t.val / 1 % 43 := Pipeline.Grid.coords_val t 1 (by decide) rfl
    simp only [cond0_0, k0_cond1, e0, e1]
    word_cmp
   : ∀ t : Fin grid0.N, cond0_0 (grid0.coords t) ↔ t.val % 43 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1024x4096 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x4096 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x4096 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .smem S86x32 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x128 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x43 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x4096 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x32 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S1024x4096 .bf16 := Memref.whole cc0_scratch0
abbrev scM0_1 : Memref sig .tc .vmem S256x4096 .bf16 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Gen

end
-- ==== Proof.KernelRunA.lean ====
/- The body of the kernel in case A, every output forgotten. -/
module

public import proofs.«01_k».proof.Proof.KernelRuns

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 2248000 in
/-- The body's triple IN CASE A (`scf.if` 0 taken: points 0, 43, … 645: 16 of 688): on whole staging memrefs — the inputs' at their contents,
    the FORGOTTEN outputs' (4, 5, 6, 7) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg2 : Memref sig .tc .vmem S1024x4096 .bf16) (harg2 : arg2.IsWhole) (arg3 : Memref sig .tc .vmem S128x4096 .fp8e4m3) (harg3 : arg3.IsWhole) (arg4 : Memref sig .tc .vmem S128x4096 .fp8e4m3) (harg4 : arg4.IsWhole) (arg5 : Memref sig .tc .smem S86x32 .f32) (harg5 : arg5.IsWhole) (arg6 : Memref sig .tc .vmem S1024x128 .fp8e4m3) (harg6 : arg6.IsWhole) (arg7 : Memref sig .tc .vmem S1024x43 .f32) (harg7 : arg7.IsWhole) (arg8 : Memref sig .tc .vmem S1024x4096 .fp8e4m3) (harg8 : arg8.IsWhole) (arg9 : Memref sig .tc .vmem S1024x32 .f32) (harg9 : arg9.IsWhole) (arg10 : Memref sig .tc .vmem S1024x4096 .bf16) (harg10 : arg10.IsWhole) (arg11 : Memref sig .tc .vmem S256x4096 .bf16) (harg11 : arg11.IsWhole) (hc0 : cond0_0 i)
    (x0 : Vec F S1024x4096 .bf16) (x1 : Vec F S128x4096 .fp8e4m3) (x2 : Vec F S128x4096 .fp8e4m3) (x3 : Vec F S86x32 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11) K := by
    intro E K
    simp only [cc0__kernel_eq_skeleton]; unfold cc0__kernel_skel
    simp only [k0_part62_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [HS0]
    · iexists _, _; isplitr; swap; · iexact HS0
      ipureintro; rfl
    iexists _, _; isplitr; swap; · iexact HS1
    ipureintro; rfl

end Cert.Kernel.Gen

end
-- ==== Proof.KernelRunB.lean ====
/- The body of the kernel in case B, every output forgotten. -/
module

public import proofs.«01_k».proof.Proof.KernelRunA

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 2028000 in
/-- The body's triple IN CASE B (`scf.if` 0 not taken: points 1, 2, … 687: 672 of 688): on whole staging memrefs — the inputs' at their contents,
    the FORGOTTEN outputs' (4, 5, 6, 7) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg2 : Memref sig .tc .vmem S1024x4096 .bf16) (harg2 : arg2.IsWhole) (arg3 : Memref sig .tc .vmem S128x4096 .fp8e4m3) (harg3 : arg3.IsWhole) (arg4 : Memref sig .tc .vmem S128x4096 .fp8e4m3) (harg4 : arg4.IsWhole) (arg5 : Memref sig .tc .smem S86x32 .f32) (harg5 : arg5.IsWhole) (arg6 : Memref sig .tc .vmem S1024x128 .fp8e4m3) (harg6 : arg6.IsWhole) (arg7 : Memref sig .tc .vmem S1024x43 .f32) (harg7 : arg7.IsWhole) (arg8 : Memref sig .tc .vmem S1024x4096 .fp8e4m3) (harg8 : arg8.IsWhole) (arg9 : Memref sig .tc .vmem S1024x32 .f32) (harg9 : arg9.IsWhole) (arg10 : Memref sig .tc .vmem S1024x4096 .bf16) (harg10 : arg10.IsWhole) (arg11 : Memref sig .tc .vmem S256x4096 .bf16) (harg11 : arg11.IsWhole) (hc0 : ¬cond0_0 i)
    (x0 : Vec F S1024x4096 .bf16) (x1 : Vec F S128x4096 .fp8e4m3) (x2 : Vec F S128x4096 .fp8e4m3) (x3 : Vec F S86x32 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11) K := by
    intro E K
    simp only [cc0__kernel_eq_skeleton]; unfold cc0__kernel_skel
    simp only [k0_part62_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [HS0]
    · iexists _, _; isplitr; swap; · iexact HS0
      ipureintro; rfl
    iexists _, _; isplitr; swap; · iexact HS1
    ipureintro; rfl

end Cert.Kernel.Gen

end
-- ==== Proof.KernelFrame.lean ====
/- The frame of the kernel: it runs, and leaves its arguments as they were. -/
module

public import proofs.«01_k».proof.Proof.KernelRunB
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (4, 5, 6, 7): nothing reads what the kernel leaves in them, so nothing
    of it is named (Lib/Pipeline/Dat.lean `Dat.toRForget`). -/
def forgets0 : Fin 8 → Bool := fun w => w.val == 4 || w.val == 5 || w.val == 6 || w.val == 7

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare d)
    ∗ (∃ d, owns (c : Thread nD τ) (ms0_5 t) fullShare d)
    ∗ (∃ d, owns (c : Thread nD τ) (ms0_6 t) fullShare d)
    ∗ (∃ d, owns (c : Thread nD τ) (ms0_7 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (∃ d, owns (c : Thread nD τ) (ms0_4 t) fullShare d)
    ∗ (∃ d, owns (c : Thread nD τ) (ms0_5 t) fullShare d)
    ∗ (∃ d, owns (c : Thread nD τ) (ms0_6 t) fullShare d)
    ∗ (∃ d, owns (c : Thread nD τ) (ms0_7 t) fullShare d))

set_option maxHeartbeats 1600000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 688 := lt_of_lt_of_eq t.isLt (show cfg0.N = 688 from N_0)
  by_cases h0 : t.val % 43 = 0
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_A c (grid0.coords t) _ _ _ _ _ _ _ _ _ _ _ _ _ _ _ _ _ _ _ _ ((hcond0_0 t).mpr h0) (iblk m c 0 t) (iblk m c 1 t) (iblk m c 2 t) (iblk m c 3 t)) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    isplitl [HS0]; · iexact HS0
    isplitl [HS1]; · iexact HS1
    iintro ⟨H0, H1, H2, H3, H4, H5, H6, H7, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_B c (grid0.coords t) _ _ _ _ _ _ _ _ _ _ _ _ _ _ _ _ _ _ _ _ (fun h => h0 ((hcond0_0 t).mp h)) (iblk m c 0 t) (iblk m c 1 t) (iblk m c 2 t) (iblk m c 3 t)) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    isplitl [HS0]; · iexact HS0
    isplitl [HS1]; · iexact HS1
    iintro ⟨H0, H1, H2, H3, H4, H5, H6, H7, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 4, 5, 6, 7) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of_rel m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel.Gen

end
-- ==== Proof.IdealRuns.lean ====
/- What the runs of the idealized kernel's body share: the branch condition in closed form, the staging and scratch memrefs,
   and the frame claim's post from a run over relational proof data. -/
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_KernelIdeal`, Defs.lean, at any `F`). -/
theorem frame_of_rel (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (Pipeline.mem_restRefs_of main_arg0 (by decide) (by decide))).trans (V_main_arg0 m c),
      (Pipeline.RDat.FramePost.arr_in h c 2 rfl).trans ((hA c 2).trans (V_main_arg1 m c)),
      (Pipeline.RDat.FramePost.arr_in h c 3 rfl).trans ((hA c 3).trans (V_main_arg2 m c))⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 43) — by arithmetic of the point. -/
theorem hcond0_0 : ∀ t : Fin cfg0.N, cond0_0 (grid0.coords t) ↔ t.val % 43 = 0 :=
  (fun t => by
    have ht : t.val < 688 := Nat.lt_of_lt_of_eq t.isLt N_0
    have e0 : (grid0.coords t 0).val = t.val / 43 % 16 := Pipeline.Grid.coords_val t 0 (by decide) rfl
    have e1 : (grid0.coords t 1).val = t.val / 1 % 43 := Pipeline.Grid.coords_val t 1 (by decide) rfl
    simp only [cond0_0, k0_cond1, e0, e1]
    word_cmp
   : ∀ t : Fin grid0.N, cond0_0 (grid0.coords t) ↔ t.val % 43 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1024x4096 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x4096 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x4096 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .smem S86x32 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x128 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x43 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x4096 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x32 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S1024x4096 .bf16 := Memref.whole cc0_scratch0
abbrev scM0_1 : Memref sig .tc .vmem S256x4096 .bf16 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Gen

end
-- ==== Proof.IdealRunA.lean ====
/- The body of the idealized kernel in case A, every output forgotten. -/
module

public import proofs.«01_k».proof.Proof.IdealRuns

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 2248000 in
/-- The body's triple IN CASE A (`scf.if` 0 taken: points 0, 43, … 645: 16 of 688): on whole staging memrefs — the inputs' at their contents,
    the FORGOTTEN outputs' (4, 5, 6, 7) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg2 : Memref sig .tc .vmem S1024x4096 .bf16) (harg2 : arg2.IsWhole) (arg3 : Memref sig .tc .vmem S128x4096 .fp8e4m3) (harg3 : arg3.IsWhole) (arg4 : Memref sig .tc .vmem S128x4096 .fp8e4m3) (harg4 : arg4.IsWhole) (arg5 : Memref sig .tc .smem S86x32 .f32) (harg5 : arg5.IsWhole) (arg6 : Memref sig .tc .vmem S1024x128 .fp8e4m3) (harg6 : arg6.IsWhole) (arg7 : Memref sig .tc .vmem S1024x43 .f32) (harg7 : arg7.IsWhole) (arg8 : Memref sig .tc .vmem S1024x4096 .fp8e4m3) (harg8 : arg8.IsWhole) (arg9 : Memref sig .tc .vmem S1024x32 .f32) (harg9 : arg9.IsWhole) (arg10 : Memref sig .tc .vmem S1024x4096 .bf16) (harg10 : arg10.IsWhole) (arg11 : Memref sig .tc .vmem S256x4096 .bf16) (harg11 : arg11.IsWhole) (hc0 : cond0_0 i)
    (x0 : Vec F S1024x4096 .bf16) (x1 : Vec F S128x4096 .fp8e4m3) (x2 : Vec F S128x4096 .fp8e4m3) (x3 : Vec F S86x32 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11) K := by
    intro E K
    simp only [cc0__kernel_eq_skeleton]; unfold cc0__kernel_skel
    simp only [k0_part62_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [HS0]
    · iexists _, _; isplitr; swap; · iexact HS0
      ipureintro; rfl
    iexists _, _; isplitr; swap; · iexact HS1
    ipureintro; rfl

end Cert.KernelIdeal.Gen

end
-- ==== Proof.IdealRunB.lean ====
/- The body of the idealized kernel in case B, every output forgotten. -/
module

public import proofs.«01_k».proof.Proof.IdealRunA

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 2028000 in
/-- The body's triple IN CASE B (`scf.if` 0 not taken: points 1, 2, … 687: 672 of 688): on whole staging memrefs — the inputs' at their contents,
    the FORGOTTEN outputs' (4, 5, 6, 7) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg2 : Memref sig .tc .vmem S1024x4096 .bf16) (harg2 : arg2.IsWhole) (arg3 : Memref sig .tc .vmem S128x4096 .fp8e4m3) (harg3 : arg3.IsWhole) (arg4 : Memref sig .tc .vmem S128x4096 .fp8e4m3) (harg4 : arg4.IsWhole) (arg5 : Memref sig .tc .smem S86x32 .f32) (harg5 : arg5.IsWhole) (arg6 : Memref sig .tc .vmem S1024x128 .fp8e4m3) (harg6 : arg6.IsWhole) (arg7 : Memref sig .tc .vmem S1024x43 .f32) (harg7 : arg7.IsWhole) (arg8 : Memref sig .tc .vmem S1024x4096 .fp8e4m3) (harg8 : arg8.IsWhole) (arg9 : Memref sig .tc .vmem S1024x32 .f32) (harg9 : arg9.IsWhole) (arg10 : Memref sig .tc .vmem S1024x4096 .bf16) (harg10 : arg10.IsWhole) (arg11 : Memref sig .tc .vmem S256x4096 .bf16) (harg11 : arg11.IsWhole) (hc0 : ¬cond0_0 i)
    (x0 : Vec F S1024x4096 .bf16) (x1 : Vec F S128x4096 .fp8e4m3) (x2 : Vec F S128x4096 .fp8e4m3) (x3 : Vec F S86x32 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11) K := by
    intro E K
    simp only [cc0__kernel_eq_skeleton]; unfold cc0__kernel_skel
    simp only [k0_part62_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [HS0]
    · iexists _, _; isplitr; swap; · iexact HS0
      ipureintro; rfl
    iexists _, _; isplitr; swap; · iexact HS1
    ipureintro; rfl

end Cert.KernelIdeal.Gen

end
-- ==== Proof.IdealFrame.lean ====
/- The frame of the idealized kernel: it runs, and leaves its arguments as they were. -/
module

public import proofs.«01_k».proof.Proof.IdealRunB
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (4, 5, 6, 7): nothing reads what the kernel leaves in them, so nothing
    of it is named (Lib/Pipeline/Dat.lean `Dat.toRForget`). -/
def forgets0 : Fin 8 → Bool := fun w => w.val == 4 || w.val == 5 || w.val == 6 || w.val == 7

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare d)
    ∗ (∃ d, owns (c : Thread nD τ) (ms0_5 t) fullShare d)
    ∗ (∃ d, owns (c : Thread nD τ) (ms0_6 t) fullShare d)
    ∗ (∃ d, owns (c : Thread nD τ) (ms0_7 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (∃ d, owns (c : Thread nD τ) (ms0_4 t) fullShare d)
    ∗ (∃ d, owns (c : Thread nD τ) (ms0_5 t) fullShare d)
    ∗ (∃ d, owns (c : Thread nD τ) (ms0_6 t) fullShare d)
    ∗ (∃ d, owns (c : Thread nD τ) (ms0_7 t) fullShare d))

set_option maxHeartbeats 1600000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 688 := lt_of_lt_of_eq t.isLt (show cfg0.N = 688 from N_0)
  by_cases h0 : t.val % 43 = 0
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_A c (grid0.coords t) _ _ _ _ _ _ _ _ _ _ _ _ _ _ _ _ _ _ _ _ ((hcond0_0 t).mpr h0) (iblk m c 0 t) (iblk m c 1 t) (iblk m c 2 t) (iblk m c 3 t)) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    isplitl [HS0]; · iexact HS0
    isplitl [HS1]; · iexact HS1
    iintro ⟨H0, H1, H2, H3, H4, H5, H6, H7, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_B c (grid0.coords t) _ _ _ _ _ _ _ _ _ _ _ _ _ _ _ _ _ _ _ _ (fun h => h0 ((hcond0_0 t).mp h)) (iblk m c 0 t) (iblk m c 1 t) (iblk m c 2 t) (iblk m c 3 t)) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    isplitl [HS0]; · iexact HS0
    isplitl [HS1]; · iexact HS1
    iintro ⟨H0, H1, H2, H3, H4, H5, H6, H7, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 4, 5, 6, 7) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of_rel m ρ (fun c => (dats m 0 c).toRForget forgets0) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.KernelIdeal.Gen

end
-- ==== Proof.Scale.lean ====
/- The scale of a group of values, as the kernel finds it from words and as the reference finds it from exponents: one
   number, for every bound that is not negative. -/
module

public import Idealize.ShloMosaic.PureOps.Ideal.Laws
public import Idealize.ShloMosaic.Lib.IdealHost

@[expose] public section

noncomputable section

namespace Cert.Spec

open Idealize.ShloMosaic

/-! ## The two spellings -/

/-- The greatest magnitude of a group of 128. -/
def amax (row : Fin 128 → EReal) : EReal :=
  (Finset.univ : Finset (Fin 128)).fold max (Ideal.ofBits .f32 0xFF800000#32) (fun k => max (row k) (-(row k)))

/-- The bound a group's scale is taken from: its greatest magnitude times the quotient's constant. -/
def bound (row : Fin 128 → EReal) : EReal := amax row * Ideal.ofBits .f32 0x3B124925#32

/-- The word with exponent field `l` and nothing else. -/
def kword (l : ℕ) : BitVec 32 := IntOp.muli (BitVec.ofNat 32 l) 8388608#32

/-- The kernel's exponent field: the greatest of 247 words whose float is at most `t`. -/
def kfield (t : EReal) : BitVec 32 :=
  (Finset.univ : Finset (Fin 247)).fold IntOp.maxsi 2147483648#32
    (fun l => Scalar.select (Ideal.cmp .ole (Ideal.ofBits .f32 (kword l.val)) t) (kword l.val) 0#32)

/-- The field the kernel builds its scale from. -/
def kbits (t : EReal) : BitVec 32 :=
  Scalar.select
    (IntOp.cmpi .eq (Scalar.select (Ideal.cmp .oeq (t * Ideal.ofBits .f32 0x00000000#32) (Ideal.ofBits .f32 0x00000000#32)) (kfield t) 2139095040#32) 0#32)
    1056964608#32
    (Scalar.select (Ideal.cmp .oeq (t * Ideal.ofBits .f32 0x00000000#32) (Ideal.ofBits .f32 0x00000000#32)) (kfield t) 2139095040#32)

/-- The kernel's scale, -/
def kscale (t : EReal) : EReal := Ideal.ofBits .f32 (IntOp.addi (kbits t) 8388608#32)

/-- and the factor it multiplies by. -/
def kinv (t : EReal) : EReal := Ideal.ofBits .f32 (IntOp.subi 2122317824#32 (kbits t))

/-- The reference's `k`-th exponent. -/
def rcand (k : ℕ) : EReal := FloatOps.sitofp (F := Ideal) .f32 (BitVec.ofNat 32 k) - Ideal.ofBits .f32 0x42FA0000#32

/-- The reference's exponent: the least one whose power of two exceeds `t`. -/
def rexp (t : EReal) : EReal :=
  Scalar.select (Ideal.cmp .olt t (Ideal.ofBits .f32 0x00800000#32)) (Ideal.ofBits .f32 0x00000000#32)
    ((Finset.univ : Finset (Fin 246)).fold min (Ideal.ofBits .f32 0x7F800000#32)
      (fun k => Scalar.select (Ideal.cmp .olt t (Ideal.exp2 (rcand k.val))) (rcand k.val) (Ideal.ofBits .f32 0x42F00000#32)))

/-- The reference's scale, -/
def rscale (t : EReal) : EReal := Ideal.exp2 (rexp t)

/-- and the factor it multiplies by. -/
def rinv (t : EReal) : EReal := Ideal.exp2 (Ideal.ofBits .f32 0x00000000#32 - rexp t)

/-! ## Words as powers of two -/

theorem kword_eq (l : ℕ) : kword l = BitVec.ofNat 32 (l * 8388608) := by
  unfold kword IntOp.muli
  rw [show (8388608#32 : BitVec 32) = BitVec.ofNat 32 8388608 from rfl, ← BitVec.ofNat_mul]

/-- A word with exponent field `n`, neither zero nor all ones, is the power of two with that exponent. -/
theorem ofBits_field (n : ℕ) (h1 : 1 ≤ n) (h2 : n ≤ 254) :
    Ideal.ofBits .f32 (BitVec.ofNat 32 (n * 8388608)) = (((2 : ℝ) ^ ((n : ℤ) - 127) : ℝ) : EReal) := by
  have e0 : (BitVec.ofNat 32 (n * 8388608)).toNat = n * 8388608 := by
    rw [BitVec.toNat_ofNat]; exact Nat.mod_eq_of_lt (by omega)
  have e1 : ((BitVec.ofNat 32 (n * 8388608)).extractLsb' 31 1 == 1#1) = false := by
    rw [beq_eq_false_iff_ne]; intro h
    have := congrArg BitVec.toNat h
    rw [BitVec.extractLsb'_toNat, e0, Nat.shiftRight_eq_div_pow] at this
    simp at this; omega
  have e2 : ((BitVec.ofNat 32 (n * 8388608)).extractLsb' 23 8).toNat = n := by
    rw [BitVec.extractLsb'_toNat, e0, Nat.shiftRight_eq_div_pow]; omega
  have e3 : ((BitVec.ofNat 32 (n * 8388608)).extractLsb' 0 23).toNat = 0 := by
    rw [BitVec.extractLsb'_toNat, e0, Nat.shiftRight_eq_div_pow]; omega
  unfold Ideal.ofBits Ideal.ieee
  simp only [Nat.reduceAdd, e1, e2, e3]
  rw [if_neg (by omega), if_neg (by omega)]
  congr 1
  have : ((2 : ℝ) ^ 23) = (2 : ℝ) ^ (23 : ℤ) := by norm_cast
  simp only [Bool.false_eq_true, if_false, Nat.add_zero, one_mul, Nat.cast_pow, Nat.cast_ofNat]
  rw [this, ← zpow_add₀ (by norm_num)]
  congr 1
  norm_num

/-- The zero word is zero. -/
theorem ofBits_zero : Ideal.ofBits .f32 0x00000000#32 = 0 := Ideal.ofBits_zero_f32

theorem ofBits_tiny : Ideal.ofBits .f32 0x00800000#32 = (((2 : ℝ) ^ (-126 : ℤ) : ℝ) : EReal) := by
  have := ofBits_field 1 (by omega) (by omega)
  simpa using this

theorem ofBits_125 : Ideal.ofBits .f32 0x42FA0000#32 = ((125 : ℝ) : EReal) := by
  simp [Ideal.ofBits, Ideal.ieee]; norm_cast; norm_num

theorem ofBits_120 : Ideal.ofBits .f32 0x42F00000#32 = ((120 : ℝ) : EReal) := by
  simp [Ideal.ofBits, Ideal.ieee]; norm_cast; norm_num

theorem ofBits_top : Ideal.ofBits .f32 0x7F800000#32 = ⊤ := by
  simp [Ideal.ofBits, Ideal.ieee]

theorem ofBits_bot : Ideal.ofBits .f32 0xFF800000#32 = ⊥ := by
  simp [Ideal.ofBits, Ideal.ieee]

theorem ofBits_quot_nonneg : 0 ≤ Ideal.ofBits .f32 0x3B124925#32 := by
  simp [Ideal.ofBits, Ideal.ieee]; norm_cast; positivity

theorem rcand_eq (k : ℕ) (hk : k < 246) : rcand k = (((k : ℤ) - 125 : ℤ) : ℝ) := by
  unfold rcand
  rw [ofBits_125]
  have : FloatOps.sitofp (F := Ideal) .f32 (BitVec.ofNat 32 k) = (((k : ℤ) : ℝ) : EReal) := by
    show (((BitVec.ofNat 32 k).toInt : ℝ) : EReal) = _
    rw [BitVec.toInt_ofNat', Int.bmod_eq_of_le (by omega) (by omega)]
  rw [this, ← EReal.coe_sub]
  push_cast
  rfl

theorem exp2_int (e : ℤ) : Ideal.exp2 ((e : ℝ) : EReal) = (((2 : ℝ) ^ e : ℝ) : EReal) := by
  show ((Real.rpow 2 (e : ℝ) : ℝ) : EReal) = _
  congr 1
  exact Real.rpow_intCast 2 e

theorem select_ofBool {α : Type} (p : Prop) [Decidable p] (a b : α) :
    Scalar.select (BitVec.ofBool (decide p)) a b = if p then a else b := by
  unfold Scalar.select; by_cases h : p <;> simp [h]

theorem cmp_ole (x y : EReal) : Ideal.cmp .ole x y = BitVec.ofBool (decide (x ≤ y)) := by simp [Ideal.cmp]
theorem cmp_olt (x y : EReal) : Ideal.cmp .olt x y = BitVec.ofBool (decide (x < y)) := by simp [Ideal.cmp]
theorem cmp_oeq (x y : EReal) : Ideal.cmp .oeq x y = BitVec.ofBool (decide (x = y)) := by simp [Ideal.cmp]

/-! ## The bound is not negative -/

theorem amax_nonneg (row : Fin 128 → EReal) : 0 ≤ amax row := by
  unfold amax
  rw [Finset.le_fold_max]
  refine Or.inr ⟨0, Finset.mem_univ _, ?_⟩
  rcases le_total 0 (row 0) with h | h
  · exact le_max_of_le_left h
  · exact le_max_of_le_right (by simpa using h)

theorem bound_nonneg (row : Fin 128 → EReal) : 0 ≤ bound row :=
  EReal.mul_nonneg (amax_nonneg row) ofBits_quot_nonneg

/-! ## The kernel's field -/

/-- A fold of the signed maximum whose every term is at most its term at `b` is that term. -/
theorem fold_maxsi {n : ℕ} (f : Fin n → BitVec 32) (b : Fin n) (h : ∀ l, (f l).toInt ≤ (f b).toInt) :
    (Finset.univ : Finset (Fin n)).fold IntOp.maxsi 2147483648#32 f = f b := by
  apply BitVec.eq_of_toInt_eq
  have hom : ∀ x y : BitVec 32, (IntOp.maxsi x y).toInt = max x.toInt y.toInt := by
    intro x y; unfold IntOp.maxsi; rw [BitVec.slt_eq_decide]
    by_cases hh : y.toInt < x.toInt
    · simp [hh, max_eq_left hh.le]
    · simp [hh, max_eq_right (not_lt.mp hh)]
  rw [← Finset.fold_hom (op := IntOp.maxsi) (op' := max) (m := BitVec.toInt) hom]
  apply le_antisymm
  · rw [Finset.fold_max_le]
    exact ⟨BitVec.le_toInt (f b), fun l _ => h l⟩
  · rw [Finset.le_fold_max]
    exact Or.inr ⟨b, Finset.mem_univ _, le_rfl⟩

/-- The floats of the kernel's words: zero, then the powers of two from `2 ^ -126`. -/
def kval (l : ℕ) : EReal := Ideal.ofBits .f32 (kword l)

theorem kval_zero : kval 0 = 0 := by
  unfold kval; rw [kword_eq, Nat.zero_mul]; exact ofBits_zero

theorem kval_pos (l : ℕ) (h1 : 1 ≤ l) (h2 : l ≤ 246) : kval l = (((2 : ℝ) ^ ((l : ℤ) - 127) : ℝ) : EReal) := by
  unfold kval; rw [kword_eq]; exact ofBits_field l h1 (by omega)

theorem kword_toInt (l : ℕ) (h : l < 247) : (kword l).toInt = l * 8388608 := by
  rw [kword_eq, BitVec.toInt_ofNat', Int.bmod_eq_of_le (by omega) (by omega)]; push_cast; rfl

/-- The kernel's field is the word of the greatest `b` whose float is at most `t`. -/
theorem exists_field (t : EReal) (ht : 0 ≤ t) :
    ∃ b : ℕ, b < 247 ∧ kfield t = kword b ∧ kval b ≤ t ∧ ∀ l, b < l → l < 247 → t < kval l := by
  let P : ℕ → Prop := fun l => kval l ≤ t
  have hP0 : P 0 := by show kval 0 ≤ t; rw [kval_zero]; exact ht
  refine ⟨Nat.findGreatest P 246, ?_, ?_, ?_, ?_⟩
  · exact Nat.lt_succ_of_le (Nat.findGreatest_le 246)
  · have hb : Nat.findGreatest P 246 < 247 := Nat.lt_succ_of_le (Nat.findGreatest_le 246)
    have hPb : P (Nat.findGreatest P 246) := Nat.findGreatest_spec (P := P) (Nat.zero_le _) hP0
    unfold kfield
    have hsel : ∀ l : Fin 247, Scalar.select (Ideal.cmp .ole (Ideal.ofBits .f32 (kword l.val)) t) (kword l.val) 0#32
        = if P l.val then kword l.val else 0#32 := by
      intro l; rw [cmp_ole, select_ofBool]; rfl
    rw [fold_maxsi _ ⟨Nat.findGreatest P 246, hb⟩]
    · rw [hsel, if_pos hPb]
    · intro l
      rw [hsel, hsel, if_pos hPb, kword_toInt _ hb]
      by_cases hl : P l.val
      · rw [if_pos hl, kword_toInt _ l.isLt]
        have : l.val ≤ Nat.findGreatest P 246 := Nat.le_findGreatest (by omega) hl
        exact_mod_cast Nat.mul_le_mul_right _ this
      · rw [if_neg hl]; simp
  · exact Nat.findGreatest_spec (P := P) (Nat.zero_le _) hP0
  · intro l h1 h2
    exact not_le.mp (Nat.findGreatest_is_greatest (P := P) h1 (by omega))

/-- The kernel's field word, with the zero field read as the field of one half. -/
theorem kbits_eq (t : EReal) (b : ℕ) (hb : b < 247) (h : kfield t = kword b) :
    kbits t = BitVec.ofNat 32 ((if b = 0 then 126 else b) * 8388608) := by
  unfold kbits
  rw [ofBits_zero, mul_zero, cmp_oeq, select_ofBool, if_pos rfl, h]
  have : IntOp.cmpi .eq (kword b) 0#32 = BitVec.ofBool (decide (b = 0)) := by
    show BitVec.ofBool (kword b == 0#32) = _
    congr 1
    by_cases hb0 : b = 0
    · subst hb0; decide
    · rw [decide_eq_false hb0, beq_eq_false_iff_ne]
      intro hh
      have := congrArg BitVec.toInt hh
      rw [kword_toInt b hb] at this
      simp at this; omega
  rw [this, select_ofBool]
  by_cases hb0 : b = 0
  · rw [if_pos hb0, if_pos hb0]
  · rw [if_neg hb0, if_neg hb0, kword_eq]

theorem kscale_eq (t : EReal) (b : ℕ) (hb : b < 247) (h : kfield t = kword b) :
    kscale t = (((2 : ℝ) ^ (((if b = 0 then 126 else b : ℕ) : ℤ) - 126) : ℝ) : EReal) := by
  unfold kscale
  rw [kbits_eq t b hb h]
  have : IntOp.addi (BitVec.ofNat 32 ((if b = 0 then 126 else b) * 8388608)) 8388608#32
      = BitVec.ofNat 32 (((if b = 0 then 126 else b) + 1) * 8388608) := by
    show BitVec.ofNat 32 _ + BitVec.ofNat 32 8388608 = _
    rw [← BitVec.ofNat_add, Nat.add_mul, Nat.one_mul]
  rw [this, ofBits_field _ (by omega) (by split <;> omega)]
  congr 2
  push_cast; ring

theorem kinv_eq (t : EReal) (b : ℕ) (hb : b < 247) (h : kfield t = kword b) :
    kinv t = (((2 : ℝ) ^ (126 - ((if b = 0 then 126 else b : ℕ) : ℤ)) : ℝ) : EReal) := by
  unfold kinv
  rw [kbits_eq t b hb h]
  have hle : (if b = 0 then 126 else b) ≤ 246 := by split <;> omega
  have : IntOp.subi 2122317824#32 (BitVec.ofNat 32 ((if b = 0 then 126 else b) * 8388608))
      = BitVec.ofNat 32 ((253 - (if b = 0 then 126 else b)) * 8388608) := by
    generalize (if b = 0 then 126 else b) = n at hle
    apply BitVec.eq_of_toNat_eq
    unfold IntOp.subi
    rw [BitVec.toNat_sub, BitVec.toNat_ofNat, BitVec.toNat_ofNat, BitVec.toNat_ofNat]
    omega
  rw [this, ofBits_field _ (by omega) (by omega)]
  congr 2
  rw [Nat.cast_sub (by omega)]; push_cast; ring

/-! ## The reference's exponent -/

theorem fold_min_eq {n : ℕ} (f : Fin n → EReal) (b : Fin n) (h : ∀ l, f b ≤ f l) :
    (Finset.univ : Finset (Fin n)).fold min (Ideal.ofBits .f32 0x7F800000#32) f = f b := by
  rw [ofBits_top]
  apply le_antisymm
  · rw [Finset.fold_min_le]; exact Or.inr ⟨b, Finset.mem_univ _, le_rfl⟩
  · rw [Finset.le_fold_min]; exact ⟨le_top, fun l _ => h l⟩

theorem rexp_eq (t : EReal) (b : ℕ) (hb : b < 247) (hle : kval b ≤ t) (hgt : ∀ l, b < l → l < 247 → t < kval l) :
    rexp t = ((((if b = 0 then 126 else b : ℕ) : ℤ) - 126 : ℤ) : ℝ) := by
  unfold rexp
  rw [cmp_olt, select_ofBool, ofBits_tiny]
  by_cases hb0 : b = 0
  · rw [if_pos hb0, if_pos]
    · rw [ofBits_zero]; norm_num
    · have := hgt 1 (by omega) (by omega)
      rw [kval_pos 1 (by omega) (by omega)] at this
      simpa using this
  · rw [if_neg hb0, if_neg]
    · have hbk : b - 1 < 246 := by omega
      have hval : ∀ k : Fin 246, Scalar.select (Ideal.cmp .olt t (Ideal.exp2 (rcand k.val))) (rcand k.val) (Ideal.ofBits .f32 0x42F00000#32)
          = if t < (((2 : ℝ) ^ ((k.val : ℤ) - 125) : ℝ) : EReal) then ((((k.val : ℤ) - 125 : ℤ) : ℝ) : EReal) else (((120 : ℤ) : ℝ) : EReal) := by
        intro k
        rw [cmp_olt, select_ofBool, rcand_eq _ k.isLt, exp2_int, ofBits_120]; norm_num
      have hat : (if t < (((2 : ℝ) ^ (((b - 1 : ℕ) : ℤ) - 125) : ℝ) : EReal) then (((((b - 1 : ℕ) : ℤ) - 125 : ℤ) : ℝ) : EReal) else (((120 : ℤ) : ℝ) : EReal))
          = ((((b : ℤ) - 126 : ℤ) : ℝ) : EReal) := by
        have hc : (((b - 1 : ℕ) : ℤ) - 125) = (b : ℤ) - 126 := by omega
        rw [hc]
        by_cases hb6 : b = 246
        · subst hb6; norm_num
        · rw [if_pos]
          have := hgt (b + 1) (by omega) (by omega)
          rw [kval_pos (b + 1) (by omega) (by omega)] at this
          convert this using 3
          push_cast; ring
      rw [fold_min_eq _ ⟨b - 1, hbk⟩]
      · rw [hval, hat]
      · intro l
        rw [hval, hval, hat]
        split
        · rename_i hlt
          rw [EReal.coe_le_coe_iff]
          have : (b : ℤ) - 126 ≤ (l.val : ℤ) - 125 := by
            by_contra hcon
            have h1 : (2 : ℝ) ^ ((l.val : ℤ) - 125) ≤ (2 : ℝ) ^ ((b : ℤ) - 127) :=
              zpow_le_zpow_right₀ (by norm_num) (by omega)
            rw [kval_pos b (by omega) (by omega)] at hle
            exact absurd (lt_of_lt_of_le hlt ((EReal.coe_le_coe_iff.mpr h1).trans hle)) (lt_irrefl _)
          exact_mod_cast this
        · rw [EReal.coe_le_coe_iff]
          have : (b : ℤ) - 126 ≤ 120 := by omega
          exact_mod_cast this
    · rw [not_lt]
      refine le_trans ?_ hle
      rw [kval_pos b (by omega) (by omega), EReal.coe_le_coe_iff]
      exact zpow_le_zpow_right₀ (by norm_num) (by omega)

/-! ## Their agreement -/

/-- Of a bound that is not negative, the kernel's scale is the reference's. -/
theorem kscale_eq_rscale (t : EReal) (ht : 0 ≤ t) : kscale t = rscale t := by
  obtain ⟨b, hb, hf, hle, hgt⟩ := exists_field t ht
  rw [kscale_eq t b hb hf, rscale, rexp_eq t b hb hle hgt, exp2_int]

/-- Of a bound that is not negative, the kernel's factor is the reference's. -/
theorem kinv_eq_rinv (t : EReal) (ht : 0 ≤ t) : kinv t = rinv t := by
  obtain ⟨b, hb, hf, hle, hgt⟩ := exists_field t ht
  rw [kinv_eq t b hb hf, rinv, rexp_eq t b hb hle hgt, ofBits_zero, zero_sub, ← EReal.coe_neg, ← Int.cast_neg, exp2_int]
  congr 2; ring

end Cert.Spec

end
-- ==== Proof.Blocks.lean ====
/- The quantiser of `n` rows of 128 values, as the kernel's vector operations spell it, read at an index. -/
module

public import proofs.«01_k».proof.Proof.Scale
public import Idealize.ShloMosaic.Lib.ValueIdx
public import Idealize.ShloMosaic.Lib.ValueLayoutCasts
public import Idealize.ShloMosaic.Lib.Pipeline.Value

@[expose] public section

noncomputable section

namespace Cert.Spec

open Idealize.ShloMosaic Idealize.ShloMosaic.ValueIdx

/-- The code of a group's `k`-th value, scaled by the group's factor and clipped. -/
def qcode (row : Fin 128 → EReal) (k : Fin 128) : EReal :=
  min (Ideal.ofBits .f32 0x43E00000#32) (max (Ideal.ofBits .f32 0xC3E00000#32) (row k * kinv (bound row)))

/-- The group's scale. -/
def qscale (row : Fin 128 → EReal) : EReal := kscale (bound row)

variable {n : ℕ}

/-- Inserting a coordinate on the second of two axes. -/
theorem lift_two {m : ℕ} (h : (⟨2, ![n, m]⟩ : Shape).Reduces [1] ⟨1, ![n]⟩) (r : Fin n) (k : Fin m) :
    h.lift (ix1 r) k = ix2 r k := by
  funext a
  apply Fin.ext
  match a with
  | ⟨0, _⟩ => rfl
  | ⟨1, _⟩ => rfl

/-- A row's maximum. -/
theorem rowMax_apply {m : ℕ} (h : (⟨2, ![n, m]⟩ : Shape).Reduces [1] ⟨1, ![n]⟩) (x : FVec Ideal ⟨2, ![n, m]⟩ .f32)
    (acc : BitVec 32) (hφ : FKind.Formats .f32) (hacc : acc = FKind.maximumf.neutral .f32 hφ) (r : Fin n) :
    multiReduction .maximumf [1] ⟨1, ![n]⟩ x acc h hφ hacc (ix1 r)
      = (Finset.univ : Finset (Fin m)).fold max (Ideal.ofBits .f32 acc) (fun k => x (ix2 r k)) :=
  (Ideal.multiReduction_maximumf_single x acc h hφ hacc (ix1 r)).trans
    (congrArg (fun f => (Finset.univ : Finset (Fin m)).fold max (Ideal.ofBits .f32 acc) f)
      (funext fun k => congrArg x (lift_two h r k)))

/-- A row's signed maximum of words. -/
theorem rowMaxI_apply {m : ℕ} (h : (⟨2, ![n, m]⟩ : Shape).Reduces [1] ⟨1, ![n]⟩) (x : IVec ⟨2, ![n, m]⟩ 32)
    (acc : BitVec 32) (hacc : acc = IKind.maxsi.neutral) (r : Fin n) :
    multiReductionI .maxsi [1] ⟨1, ![n]⟩ x acc h hacc (ix1 r)
      = (Finset.univ : Finset (Fin m)).fold IntOp.maxsi acc (fun k => x (ix2 r k)) :=
  (multiReductionI_eq_fold .maxsi x acc h hacc (ix1 r)).trans
    ((h.fold_filter_drop_single IntOp.maxsi acc x (ix1 r)).trans
      (congrArg (fun f => (Finset.univ : Finset (Fin m)).fold IntOp.maxsi acc f)
        (funext fun k => congrArg x (lift_two h r k))))

/-! The vector operations at an index. -/

theorem bitcastToFloat_at {s : Shape} (w : IVec s 32) (i : s.Idx) : bitcastToFloat (F := Ideal) .f32 w i = Ideal.ofBits .f32 (w i) := rfl
theorem cmpf_ole_at {s : Shape} (x y : FVec Ideal s .f32) (i : s.Idx) : cmpf .ole x y i = Ideal.cmp .ole (x i) (y i) := rfl
theorem cmpf_oeq_at {s : Shape} (x y : FVec Ideal s .f32) (i : s.Idx) : cmpf .oeq x y i = Ideal.cmp .oeq (x i) (y i) := rfl
theorem cmpf_olt_at {s : Shape} (x y : FVec Ideal s .f32) (i : s.Idx) : cmpf .olt x y i = Ideal.cmp .olt (x i) (y i) := rfl
theorem cmpi_eq_at {s : Shape} (x y : IVec s 32) (i : s.Idx) : cmpi .eq x y i = IntOp.cmpi .eq (x i) (y i) := rfl
theorem select_at {α : Type} {s : Shape} (c : IVec s 1) (x y : s.Idx → α) (i : s.Idx) : select c x y i = Scalar.select (c i) (x i) (y i) := rfl
theorem broadcast_at {α : Type} (s : Shape) (x : α) (i : s.Idx) : broadcast s x i = x := rfl
theorem addi_at {s : Shape} (x y : IVec s 32) (i : s.Idx) : addi x y i = IntOp.addi (x i) (y i) := rfl
theorem subi_at {s : Shape} (x y : IVec s 32) (i : s.Idx) : subi x y i = IntOp.subi (x i) (y i) := rfl

section

variable (hr : (⟨2, ![n, 128]⟩ : Shape).Reduces [1] ⟨1, ![n]⟩) (hc : (⟨1, ![n]⟩ : Shape).ShapeCasts ⟨2, ![n, 1]⟩)
  (hi : (⟨2, ![n, 247]⟩ : Shape).Iotas .tc 32 [1]) (hb : (⟨2, ![n, 1]⟩ : Shape).Broadcasts ⟨2, ![n, 247]⟩)
  (hq : (⟨2, ![n, 247]⟩ : Shape).Reduces [1] ⟨1, ![n]⟩) (h128 : (⟨2, ![n, 1]⟩ : Shape).Broadcasts ⟨2, ![n, 128]⟩)

/-- Each row's bound. -/
def boundVec (v : FVec Ideal ⟨2, ![n, 128]⟩ .f32) : FVec Ideal ⟨2, ![n, 1]⟩ .f32 :=
  mulf (shapeCast ⟨2, ![n, 1]⟩ (multiReduction .maximumf [1] ⟨1, ![n]⟩ (absf v) 0xFF800000#32 hr (.inl rfl) rfl) hc)
    (broadcast ⟨2, ![n, 1]⟩ (Scalar.ofBits .f32 0x3B124925#32))

theorem boundVec_apply (v : FVec Ideal ⟨2, ![n, 128]⟩ .f32) (r : Fin n) (u : Fin 1) :
    boundVec hr hc v (ix2 r u) = bound fun k => v (ix2 r k) := by
  have h := (shapeCast_a_a1_apply (multiReduction .maximumf [1] ⟨1, ![n]⟩ (absf v) 0xFF800000#32 hr (.inl rfl) rfl) hc r u).trans
    (rowMax_apply hr (absf v) 0xFF800000#32 (.inl rfl) rfl r)
  exact congrArg (fun z => z * Ideal.ofBits .f32 0x3B124925#32) h

/-- The words of the exponents, row after row. -/
def wordVec : IVec ⟨2, ![n, 247]⟩ 32 :=
  muli (iota .tc ⟨2, ![n, 247]⟩ 32 [1] hi) (broadcast ⟨2, ![n, 247]⟩ 8388608#32)

theorem wordVec_apply (r : Fin n) (l : Fin 247) : wordVec hi (ix2 r l) = kword l.val := by
  show IntOp.muli (iota .tc ⟨2, ![n, 247]⟩ 32 [1] hi (ix2 r l)) 8388608#32 = _
  rw [iota_single_apply]; rfl

/-- The words whose floats are at most the row's bound, the others zero. -/
def keptVec (t : FVec Ideal ⟨2, ![n, 1]⟩ .f32) : IVec ⟨2, ![n, 247]⟩ 32 :=
  select (cmpf .ole (bitcastToFloat .f32 (wordVec hi)) (broadcastTo ⟨2, ![n, 247]⟩ t hb)) (wordVec hi) (broadcast ⟨2, ![n, 247]⟩ 0#32)

theorem keptVec_apply (t : FVec Ideal ⟨2, ![n, 1]⟩ .f32) (r : Fin n) (l : Fin 247) :
    keptVec hi hb t (ix2 r l)
      = Scalar.select (Ideal.cmp .ole (Ideal.ofBits .f32 (kword l.val)) (t (ix2 r 0))) (kword l.val) 0#32 := by
  have e : broadcastTo ⟨2, ![n, 247]⟩ t hb (ix2 r l) = t (ix2 r 0) := by
    apply broadcastTo_apply t hb (ix2 r l) (ix2 r 0)
    intro a
    match a with
    | ⟨0, _⟩ =>
      show r.val = if n = 1 then 0 else r.val
      split
      · have := r.isLt; omega
      · rfl
    | ⟨1, _⟩ => rfl
  unfold keptVec
  rw [select_at, cmpf_ole_at, bitcastToFloat_at, wordVec_apply, e]
  exact congrArg (Scalar.select _ _) (broadcast_at _ _ _)

/-- Each row's field, of the bounds `t`. -/
def fieldVec (t : FVec Ideal ⟨2, ![n, 1]⟩ .f32) : IVec ⟨2, ![n, 1]⟩ 32 :=
  shapeCast ⟨2, ![n, 1]⟩ (multiReductionI .maxsi [1] ⟨1, ![n]⟩ (keptVec hi hb t) 2147483648#32 hq rfl) hc

theorem fieldVec_apply (t : FVec Ideal ⟨2, ![n, 1]⟩ .f32) (r : Fin n) (u : Fin 1) :
    fieldVec hc hi hb hq t (ix2 r u) = kfield (t (ix2 r 0)) := by
  refine (shapeCast_a_a1_apply _ hc r u).trans ?_
  refine (rowMaxI_apply hq (keptVec hi hb t) 2147483648#32 rfl r).trans ?_
  have e : (fun k : Fin 247 => keptVec hi hb t (ix2 r k)) = fun l => Scalar.select (Ideal.cmp .ole (Ideal.ofBits .f32 (kword l.val)) (t (ix2 r 0))) (kword l.val) 0#32 :=
    funext fun l => keptVec_apply hi hb t r l
  rw [e]
  unfold kfield
  exact Eq.refl _

/-- Each row's bits, of its bound and its field. -/
def bitsVec (t : FVec Ideal ⟨2, ![n, 1]⟩ .f32) (f : IVec ⟨2, ![n, 1]⟩ 32) : IVec ⟨2, ![n, 1]⟩ 32 :=
  select
    (cmpi .eq
      (select (cmpf .oeq (mulf t (broadcast ⟨2, ![n, 1]⟩ (Scalar.ofBits .f32 0x00000000#32))) (broadcast ⟨2, ![n, 1]⟩ (Scalar.ofBits .f32 0x00000000#32))) f
        (broadcast ⟨2, ![n, 1]⟩ 2139095040#32))
      (broadcast ⟨2, ![n, 1]⟩ 0#32))
    (broadcast ⟨2, ![n, 1]⟩ 1056964608#32)
    (select (cmpf .oeq (mulf t (broadcast ⟨2, ![n, 1]⟩ (Scalar.ofBits .f32 0x00000000#32))) (broadcast ⟨2, ![n, 1]⟩ (Scalar.ofBits .f32 0x00000000#32))) f
      (broadcast ⟨2, ![n, 1]⟩ 2139095040#32))

/-- Each row's bits, of the rows. -/
def rowBits (v : FVec Ideal ⟨2, ![n, 128]⟩ .f32) : IVec ⟨2, ![n, 1]⟩ 32 :=
  bitsVec (boundVec hr hc v) (fieldVec hc hi hb hq (boundVec hr hc v))

theorem rowBits_apply (v : FVec Ideal ⟨2, ![n, 128]⟩ .f32) (r : Fin n) (u : Fin 1) :
    rowBits hr hc hi hb hq v (ix2 r u) = kbits (bound fun k => v (ix2 r k)) := by
  have hu : u = 0 := Subsingleton.elim _ _
  subst hu
  unfold rowBits bitsVec
  simp only [select_at, cmpi_eq_at, cmpf_oeq_at, broadcast_at, mulf_apply]
  rw [fieldVec_apply, boundVec_apply]
  unfold kbits
  exact Eq.refl _

/-- Each row's scale. -/
def scaleVec (v : FVec Ideal ⟨2, ![n, 128]⟩ .f32) : FVec Ideal ⟨2, ![n, 1]⟩ .f32 :=
  bitcastToFloat .f32 (addi (rowBits hr hc hi hb hq v) (broadcast ⟨2, ![n, 1]⟩ 8388608#32))

theorem scaleVec_apply (v : FVec Ideal ⟨2, ![n, 128]⟩ .f32) (r : Fin n) (u : Fin 1) :
    scaleVec hr hc hi hb hq v (ix2 r u) = qscale fun k => v (ix2 r k) := by
  unfold scaleVec
  rw [bitcastToFloat_at, addi_at, broadcast_at, rowBits_apply]
  unfold qscale kscale
  exact Eq.refl _

/-- A column spread over a row's 128. -/
theorem spread_apply {α : Type} (x : (⟨2, ![n, 1]⟩ : Shape).Idx → α) (r : Fin n) (k : Fin 128) :
    broadcastTo ⟨2, ![n, 128]⟩ x h128 (ix2 r k) = x (ix2 r 0) := by
  apply broadcastTo_apply
  intro a
  match a with
  | ⟨0, _⟩ =>
    show r.val = if n = 1 then 0 else r.val
    split
    · have := r.isLt; omega
    · rfl
  | ⟨1, _⟩ => rfl

/-- The rows' codes. -/
def codeVec (v : FVec Ideal ⟨2, ![n, 128]⟩ .f32) : FVec Ideal ⟨2, ![n, 128]⟩ .f32 :=
  minimumf (broadcast ⟨2, ![n, 128]⟩ (Scalar.ofBits .f32 0x43E00000#32))
    (maximumf (broadcast ⟨2, ![n, 128]⟩ (Scalar.ofBits .f32 0xC3E00000#32))
      (mulf v (broadcastTo ⟨2, ![n, 128]⟩
        (bitcastToFloat .f32 (subi (broadcast ⟨2, ![n, 1]⟩ 2122317824#32) (rowBits hr hc hi hb hq v))) h128)))

theorem codeVec_apply (v : FVec Ideal ⟨2, ![n, 128]⟩ .f32) (r : Fin n) (k : Fin 128) :
    codeVec hr hc hi hb hq h128 v (ix2 r k) = qcode (fun k => v (ix2 r k)) k := by
  unfold codeVec
  rw [minimumf_apply, maximumf_apply, mulf_apply, spread_apply, bitcastToFloat_at, subi_at, rowBits_apply, broadcast_at, broadcast_at, broadcast_at]
  unfold qcode kinv
  exact Eq.refl _

end

/-! ## A row of 4096 in its 32 groups -/

/-- Group `g` of a row. -/
def grp (row : Fin 4096 → EReal) (g : Fin 32) : Fin 128 → EReal := fun k => row ⟨128 * g.val + k.val, by omega⟩

/-- The group of a column, -/
def colGrp (c : Fin 4096) : Fin 32 := ⟨c.val / 128, by omega⟩

/-- and the column's place in it. -/
def colLane (c : Fin 4096) : Fin 128 := ⟨c.val % 128, by omega⟩

/-- A row's codes, -/
def xcode (row : Fin 4096 → EReal) (c : Fin 4096) : EReal := qcode (grp row (colGrp c)) (colLane c)

/-- its scales, -/
def xscale (row : Fin 4096 → EReal) (g : Fin 32) : EReal := qscale (grp row g)

/-- and the row its codes and scales stand for. -/
def xdeq (row : Fin 4096 → EReal) (c : Fin 4096) : EReal := xcode row c * xscale row (colGrp c)

/-- A row of weights its codes and scales stand for. -/
def wdeq (w : Fin 4096 → EReal) (s : Fin 32 → EReal) (c : Fin 4096) : EReal := w c * s (colGrp c)

/-- The product of a row of `x` and a row of weights. -/
def dotRow (x : Fin 4096 → EReal) (w : Fin 4096 → EReal) (s : Fin 32 → EReal) : EReal := ∑ c : Fin 4096, xdeq x c * wdeq w s c

/-- One value of the hidden row: its gate, the gate's logistic and its up value multiplied. -/
def swiglu (a b : EReal) : EReal := a * Ideal.div 1 (1 + Ideal.exp (-a)) * b

/-! ## The four results, of whole arrays -/

section

variable (X : Fin 16384 → Fin 4096 → EReal) (W : Fin 11008 → Fin 4096 → EReal) (S : Fin 86 → Fin 32 → EReal)

/-- Group `j` of hidden row `r`. -/
def hrow (r : Fin 16384) (j : Fin 43) (k : Fin 128) : EReal :=
  swiglu (dotRow (X r) (W ⟨128 * j.val + k.val, by omega⟩) (S ⟨j.val, by omega⟩))
    (dotRow (X r) (W ⟨5504 + 128 * j.val + k.val, by omega⟩) (S ⟨j.val + 43, by omega⟩))

/-- The hidden rows' codes, -/
def hcodeAt (r : Fin 16384) (c : Fin 5504) : EReal := qcode (hrow X W S r ⟨c.val / 128, by omega⟩) ⟨c.val % 128, by omega⟩

/-- and their scales. -/
def hscaleAt (r : Fin 16384) (j : Fin 43) : EReal := qscale (hrow X W S r j)

end

end Cert.Spec

end
-- ==== Proof.TripValues.lean ====
/- What one trip of the kernel's loop over a block of `x` writes: codes, scales, and the rows they stand for, of 32 rows. -/
module

public import proofs.«01_k».proof.Proof.Blocks
public import proofs.«01_k».proof.Proof.Gen.KernelIdeal.Loops

@[expose] public section

set_option maxRecDepth 16384

noncomputable section

namespace Cert.KernelIdeal.Gen

open Idealize.ShloMosaic Idealize.ShloMosaic.TcCoe Idealize.ShloMosaic.ValueIdx Cert.Spec

/-- A row of a block. -/
abbrev rowOf {n m : ℕ} (B : (⟨2, ![n, m]⟩ : Shape).Idx → EReal) (r : Fin n) : Fin m → EReal := fun c => B (ix2 r c)

/-- The codes of a block of `x`, -/
def codesOf (B : S1024x4096.Idx → EReal) (y : S1024x4096.Idx) : EReal := xcode (rowOf B (y 0)) (y 1)

/-- the rows they stand for, -/
def deqOf (B : S1024x4096.Idx → EReal) (y : S1024x4096.Idx) : EReal := xdeq (rowOf B (y 0)) (y 1)

/-- and its scales. -/
def scalesOf (B : S1024x4096.Idx → EReal) (y : S1024x32.Idx) : EReal := xscale (rowOf B (y 0)) (y 1)

/-- The codes of 32 rows of 128. -/
def code32 (v : Vec Ideal S32x128 .bf16) : FVec Ideal S32x128 .fp8e4m3 :=
  truncf .fp8e4m3 (codeVec reduces_S32x128_S32 shapeCasts_S32_S32x1 iota_S32x247_d1_w32 broadcasts_S32x1_S32x247 reduces_S32x247_S32
    broadcasts_S32x1_S32x128 (k0_pay2 v)) bitsLt_fp8e4m3_f32

/-- Their scales. -/
def scale32 (v : Vec Ideal S32x128 .bf16) : FVec Ideal S32x1 .f32 :=
  scaleVec reduces_S32x128_S32 shapeCasts_S32_S32x1 iota_S32x247_d1_w32 broadcasts_S32x1_S32x247 reduces_S32x247_S32 (k0_pay2 v)

/-- What they stand for. -/
def deq32 (v : Vec Ideal S32x128 .bf16) : FVec Ideal S32x128 .bf16 :=
  shapeCast S32x128 (mulf (extf .bf16 (code32 v) bitsLt_fp8e4m3_bf16)
    (broadcastTo S32x128 (truncf .bf16 (scale32 v) bitsLt_bf16_f32) broadcasts_S32x1_S32x128)) shapeCasts_S32x128_S32x128

theorem pay2_apply (v : Vec Ideal S32x128 .bf16) (y : S32x128.Idx) : k0_pay2 v y = v y :=
  congrFun (shapeCast_self (s := S32x128) v shapeCasts_S32x128_S32x128) y

theorem code32_apply (v : Vec Ideal S32x128 .bf16) (r : Fin 32) (k : Fin 128) : code32 v (ix2 r k) = qcode (fun k => v (ix2 r k)) k := by
  refine (codeVec_apply _ _ _ _ _ _ (k0_pay2 v) r k).trans ?_
  exact congrArg (fun f => qcode f k) (funext fun k => pay2_apply v (ix2 r k))

theorem scale32_apply (v : Vec Ideal S32x128 .bf16) (r : Fin 32) (u : Fin 1) : scale32 v (ix2 r u) = qscale (fun k => v (ix2 r k)) := by
  refine (scaleVec_apply _ _ _ _ _ (k0_pay2 v) r u).trans ?_
  exact congrArg (fun f => qscale f) (funext fun k => pay2_apply v (ix2 r k))

theorem deq32_apply (v : Vec Ideal S32x128 .bf16) (r : Fin 32) (k : Fin 128) :
    deq32 v (ix2 r k) = qcode (fun k => v (ix2 r k)) k * qscale (fun k => v (ix2 r k)) := by
  refine (congrFun (shapeCast_self (s := S32x128) _ shapeCasts_S32x128_S32x128) (ix2 r k)).trans ?_
  rw [mulf_apply, extf_apply, code32_apply, spread_apply, truncf_apply, scale32_apply]

/-! ## Through a rectangle of the block -/

/-- 32 rows and 128 columns of a block from a multiple of 128, read at a row: the row's group. -/
theorem rect_group (B : S1024x4096.Idx → EReal) (off : Fin 2 → ℕ) (inb : ∀ a, off a + S32x128.size a ≤ S1024x4096.size a)
    (hd : off 1 % 128 = 0) (r : Fin 32) (k : Fin 128) :
    (fun k' : Fin 128 => B ((Rect.unit (s := S1024x4096) off S32x128.size inb).emb (ix2 r k')))
      = grp (rowOf B ((Rect.unit (s := S1024x4096) off S32x128.size inb).emb (ix2 r k) 0))
          (colGrp ((Rect.unit (s := S1024x4096) off S32x128.size inb).emb (ix2 r k) 1)) := by
  funext k'
  unfold grp rowOf
  refine congrArg B (funext fun a => Fin.ext ?_)
  match a with
  | ⟨0, _⟩ => rfl
  | ⟨1, _⟩ =>
    show off 1 + 1 * k'.val = 128 * ((off 1 + 1 * k.val) / 128) + k'.val
    have := k.isLt
    omega

theorem rect_lane (off : Fin 2 → ℕ) (inb : ∀ a, off a + S32x128.size a ≤ S1024x4096.size a) (hd : off 1 % 128 = 0) (r : Fin 32) (k : Fin 128) :
    colLane ((Rect.unit (s := S1024x4096) off S32x128.size inb).emb (ix2 r k) 1) = k := by
  apply Fin.ext
  show (off 1 + 1 * k.val) % 128 = k.val
  have := k.isLt
  omega

variable (v : View sig .tc .vmem S1024x4096 .bf16) (X : v.ty.Contents (Elt Ideal))

/-- The codes a trip stores at a rectangle are the block's. -/
theorem code_piece (off : Fin 2 → ℕ) (inb : ∀ a, off a + S32x128.size a ≤ S1024x4096.size a) (hd : off 1 % 128 = 0)
    (x : S32x128.Idx) :
    code32 (v.readAt (Elt Ideal) (Rect.unit (s := S1024x4096) off S32x128.size inb).toLoadRect X) x
      = codesOf (v.read (Elt Ideal) X) ((Rect.unit (s := S1024x4096) off S32x128.size inb).emb x) := by
  obtain ⟨r, k, rfl⟩ : ∃ (r : Fin 32) (k : Fin 128), x = ix2 r k := ⟨x 0, x 1, eq_ix2 x⟩
  refine (code32_apply _ r k).trans ?_
  unfold codesOf xcode
  rw [← rect_group (v.read (Elt Ideal) X) off inb hd r k, rect_lane off inb hd r k]
  rfl

/-- The rows they stand for, likewise. -/
theorem deq_piece (off : Fin 2 → ℕ) (inb : ∀ a, off a + S32x128.size a ≤ S1024x4096.size a) (hd : off 1 % 128 = 0)
    (x : S32x128.Idx) :
    deq32 (v.readAt (Elt Ideal) (Rect.unit (s := S1024x4096) off S32x128.size inb).toLoadRect X) x
      = deqOf (v.read (Elt Ideal) X) ((Rect.unit (s := S1024x4096) off S32x128.size inb).emb x) := by
  obtain ⟨r, k, rfl⟩ : ∃ (r : Fin 32) (k : Fin 128), x = ix2 r k := ⟨x 0, x 1, eq_ix2 x⟩
  refine (deq32_apply _ r k).trans ?_
  unfold deqOf xdeq xcode xscale
  rw [← rect_group (v.read (Elt Ideal) X) off inb hd r k, rect_lane off inb hd r k]
  rfl

/-- A trip's scale of a row's group. -/
theorem scale_piece (off : Fin 2 → ℕ) (inb : ∀ a, off a + S32x128.size a ≤ S1024x4096.size a) (k b : ℕ) (hk : k < 32) (hb : b < 32)
    (ho : off = ![32 * k, 128 * b]) (r : Fin 32) :
    scale32 (v.readAt (Elt Ideal) (Rect.unit (s := S1024x4096) off S32x128.size inb).toLoadRect X) (ix2 r 0)
      = scalesOf (v.read (Elt Ideal) X) (ix2 ⟨32 * k + r.val, by omega⟩ ⟨b, hb⟩) := by
  subst ho
  refine (scale32_apply _ r 0).trans ?_
  refine congrArg (fun f => qscale f) (funext fun k' => ?_)
  refine congrArg (v.read (Elt Ideal) X) (funext fun a => Fin.ext ?_)
  match a with
  | ⟨0, _⟩ => show 32 * k + 1 * r.val = 32 * k + r.val; omega
  | ⟨1, _⟩ => show 128 * b + 1 * k'.val = 128 * b + k'.val; omega

/-! ## The scales, column after column -/

/-- The 32 rows' scales with column `b` set. -/
def setCol (b : BitVec 32) (old : FVec Ideal S32x32 .f32) (sc : FVec Ideal S32x1 .f32) : FVec Ideal S32x32 .f32 :=
  select (cmpi .eq (iota .tc S32x32 32 [1] iota_S32x32_d1_w32) (broadcast S32x32 b))
    (broadcastTo S32x32 (shapeCast S32x1 sc shapeCasts_S32x1_S32x1) broadcasts_S32x1_S32x32) old

theorem setCol_step (b : ℕ) (hb : b < 32) (S : Fin 32 → Fin 32 → EReal) (old : FVec Ideal S32x32 .f32) (sc : FVec Ideal S32x1 .f32)
    (hold : ∀ (r g : Fin 32), g.val < b → old (ix2 r g) = S r g) (hsc : ∀ r : Fin 32, sc (ix2 r 0) = S r ⟨b, hb⟩)
    (r g : Fin 32) (hg : g.val < b + 1) : setCol (BitVec.ofNat 32 b) old sc (ix2 r g) = S r g := by
  unfold setCol
  have e1 : iota .tc S32x32 32 [1] iota_S32x32_d1_w32 (ix2 r g) = BitVec.ofNat 32 g.val := iota_single_apply _ _ _ _ _ _
  have e2 : broadcastTo S32x32 (shapeCast S32x1 sc shapeCasts_S32x1_S32x1) broadcasts_S32x1_S32x32 (ix2 r g) = sc (ix2 r 0) := by
    rw [shapeCast_self]
    apply broadcastTo_apply
    intro a
    match a with
    | ⟨0, _⟩ => rfl
    | ⟨1, _⟩ => rfl
  rw [select_at, cmpi_eq_at, e1, broadcast_at, e2]
  have e3 : IntOp.cmpi .eq (BitVec.ofNat 32 g.val) (BitVec.ofNat 32 b) = BitVec.ofBool (decide (g.val = b)) := by
    show BitVec.ofBool (BitVec.ofNat 32 g.val == BitVec.ofNat 32 b) = _
    congr 1
    rw [Bool.eq_iff_iff, beq_iff_eq, decide_eq_true_iff]
    constructor
    · intro h
      have := congrArg BitVec.toNat h
      rw [BitVec.toNat_ofNat, BitVec.toNat_ofNat] at this
      omega
    · intro h; rw [h]
  rw [e3, select_ofBool]
  by_cases h : g.val = b
  · rw [if_pos h, hsc]; congr 1; exact Fin.ext h.symm
  · rw [if_neg h]; exact hold r g (by omega)

/-- The same, of all the columns before the next. -/
theorem setCol_step' (b : ℕ) (hb : b < 32) (S : Fin 32 → Fin 32 → EReal) (old : FVec Ideal S32x32 .f32) (sc : FVec Ideal S32x1 .f32)
    (hold : ∀ (r g : Fin 32), g.val < b → old (ix2 r g) = S r g) (hsc : ∀ r : Fin 32, sc (ix2 r 0) = S r ⟨b, hb⟩) :
    ∀ r g : Fin 32, g.val < b + 1 → setCol (BitVec.ofNat 32 b) old sc (ix2 r g) = S r g :=
  fun r g hg => setCol_step b hb S old sc hold hsc r g hg

theorem scale_emb (off : Fin 2 → ℕ) (inb : ∀ a, off a + S32x32.size a ≤ S1024x32.size a) (k : ℕ) (hk : k < 32) (ho : off = ![32 * k, 0])
    (r g : Fin 32) : (Rect.unit (s := S1024x32) off S32x32.size inb).emb (ix2 r g) = ix2 ⟨32 * k + r.val, by omega⟩ g := by
  subst ho
  funext a
  apply Fin.ext
  match a with
  | ⟨0, _⟩ => show 32 * k + 1 * r.val = 32 * k + r.val; omega
  | ⟨1, _⟩ => show 0 + 1 * g.val = g.val; omega

theorem scale_store (off : Fin 2 → ℕ) (inb : ∀ a, off a + S32x32.size a ≤ S1024x32.size a) (k : ℕ) (hk : k < 32) (ho : off = ![32 * k, 0])
    (w : S32x32.Idx → EReal) (G : S1024x32.Idx → EReal)
    (h : ∀ r g : Fin 32, g.val < 32 → w (ix2 r g) = G (ix2 ⟨32 * k + r.val, by omega⟩ g)) (x : S32x32.Idx) :
    w x = G ((Rect.unit (s := S1024x32) off S32x32.size inb).emb x) := by
  obtain ⟨r, g, rfl⟩ : ∃ (r : Fin 32) (g : Fin 32), x = ix2 r g := ⟨x 0, x 1, eq_ix2 x⟩
  exact (h r g g.isLt).trans (congrArg G (scale_emb off inb k hk ho r g)).symm

/-! ## The trip's pieces -/

/-- The second of two offsets. -/
theorem lane_at (a n : ℕ) (h : n % 128 = 0) : (![a, n] : Fin 2 → ℕ) 1 % 128 = 0 := h

variable (𝒱 : Variants) (c : Dev nD) (bd : Option 𝒱.V) (i : grid0.Coords) (arg2 : Memref sig .tc .vmem S1024x4096 .bf16) (harg2 : arg2.IsWhole) (arg3 : Memref sig .tc .vmem S128x4096 .fp8e4m3) (harg3 : arg3.IsWhole) (arg4 : Memref sig .tc .vmem S128x4096 .fp8e4m3) (harg4 : arg4.IsWhole) (arg5 : Memref sig .tc .smem S86x32 .f32) (harg5 : arg5.IsWhole) (arg6 : Memref sig .tc .vmem S1024x128 .fp8e4m3) (harg6 : arg6.IsWhole) (arg7 : Memref sig .tc .vmem S1024x43 .f32) (harg7 : arg7.IsWhole) (arg8 : Memref sig .tc .vmem S1024x4096 .fp8e4m3) (harg8 : arg8.IsWhole) (arg9 : Memref sig .tc .vmem S1024x32 .f32) (harg9 : arg9.IsWhole) (arg10 : Memref sig .tc .vmem S1024x4096 .bf16) (harg10 : arg10.IsWhole) (arg11 : Memref sig .tc .vmem S256x4096 .bf16) (harg11 : arg11.IsWhole) (k0_h1 : k0_cond1 i = 1#1) (X_arg2 : BufTy.Contents (Elt Ideal) arg2.view.ty) (k : Fin k0_t1_loop.trips)

/-- Each piece of codes a trip writes holds the block's codes. -/
theorem trip_codes : ∀ p ∈ (tripL_k0_t1 (F := Ideal) 𝒱 c bd i arg2 harg2 arg3 harg3 arg4 harg4 arg5 harg5 arg6 harg6 arg7 harg7 arg8 harg8 arg9 harg9 arg10 harg10 arg11 harg11 k0_h1 X_arg2 k).1,
    ∀ x, p.2 x = codesOf (arg2.view.read (Elt Ideal) X_arg2) (p.1.emb x) := by
  unfold tripL_k0_t1 trip_k0_t1
  dsimp only
  repeat'
    refine List.forall_mem_cons.mpr ⟨fun x => ?_, ?_⟩
    · refine code_piece arg2.view X_arg2 _ _ ?_ x
      simp only [k0_off1_eq, k0_off2_eq, k0_off3_eq, k0_off4_eq, k0_off5_eq, k0_off6_eq, k0_off7_eq,
        k0_off8_eq, k0_off9_eq, k0_off10_eq, k0_off11_eq, k0_off12_eq, k0_off13_eq, k0_off14_eq,
        k0_off15_eq, k0_off16_eq, k0_off17_eq, k0_off18_eq, k0_off19_eq, k0_off20_eq,
        k0_off21_eq, k0_off22_eq, k0_off23_eq, k0_off24_eq, k0_off25_eq, k0_off26_eq,
        k0_off27_eq, k0_off28_eq, k0_off29_eq, k0_off30_eq, k0_off31_eq, k0_off32_eq]
      exact lane_at _ _ rfl
  exact fun p hp => absurd hp List.not_mem_nil

/-- Each piece of dequantised rows holds the block's. -/
theorem trip_deq : ∀ p ∈ (tripL_k0_t1 (F := Ideal) 𝒱 c bd i arg2 harg2 arg3 harg3 arg4 harg4 arg5 harg5 arg6 harg6 arg7 harg7 arg8 harg8 arg9 harg9 arg10 harg10 arg11 harg11 k0_h1 X_arg2 k).2.2,
    ∀ x, p.2 x = deqOf (arg2.view.read (Elt Ideal) X_arg2) (p.1.emb x) := by
  unfold tripL_k0_t1 trip_k0_t1
  dsimp only
  repeat'
    refine List.forall_mem_cons.mpr ⟨fun x => ?_, ?_⟩
    · refine deq_piece arg2.view X_arg2 _ _ ?_ x
      simp only [k0_off1_eq, k0_off2_eq, k0_off3_eq, k0_off4_eq, k0_off5_eq, k0_off6_eq, k0_off7_eq,
        k0_off8_eq, k0_off9_eq, k0_off10_eq, k0_off11_eq, k0_off12_eq, k0_off13_eq, k0_off14_eq,
        k0_off15_eq, k0_off16_eq, k0_off17_eq, k0_off18_eq, k0_off19_eq, k0_off20_eq,
        k0_off21_eq, k0_off22_eq, k0_off23_eq, k0_off24_eq, k0_off25_eq, k0_off26_eq,
        k0_off27_eq, k0_off28_eq, k0_off29_eq, k0_off30_eq, k0_off31_eq, k0_off32_eq]
      exact lane_at _ _ rfl
  exact fun p hp => absurd hp List.not_mem_nil

/-- The piece of scales a trip writes holds the block's. -/
theorem trip_scales : ∀ p ∈ (tripL_k0_t1 (F := Ideal) 𝒱 c bd i arg2 harg2 arg3 harg3 arg4 harg4 arg5 harg5 arg6 harg6 arg7 harg7 arg8 harg8 arg9 harg9 arg10 harg10 arg11 harg11 k0_h1 X_arg2 k).2.1,
    ∀ x, p.2 x = scalesOf (arg2.view.read (Elt Ideal) X_arg2) (p.1.emb x) := by
  have hk : k.val < 32 := lt_of_lt_of_le k.isLt k0_t1_abs.2.1
  unfold tripL_k0_t1 trip_k0_t1
  dsimp only
  refine List.forall_mem_cons.mpr ⟨scale_store _ (k0_off33_inb i k k0_h1) k.val hk (k0_off33_eq k) _ _ ?_, fun p hp => absurd hp List.not_mem_nil⟩
  iterate 32
    refine setCol_step' _ (by decide) (fun r g => scalesOf (arg2.view.read (Elt Ideal) X_arg2) (ix2 ⟨32 * k.val + r.val, by omega⟩ g)) _ _ ?_ fun r => ?_
    rotate_left
    · refine scale_piece arg2.view X_arg2 _ _ k.val _ hk (by decide) ?_ r
      simp only [k0_off1_eq, k0_off2_eq, k0_off3_eq, k0_off4_eq, k0_off5_eq, k0_off6_eq, k0_off7_eq,
        k0_off8_eq, k0_off9_eq, k0_off10_eq, k0_off11_eq, k0_off12_eq, k0_off13_eq, k0_off14_eq,
        k0_off15_eq, k0_off16_eq, k0_off17_eq, k0_off18_eq, k0_off19_eq, k0_off20_eq,
        k0_off21_eq, k0_off22_eq, k0_off23_eq, k0_off24_eq, k0_off25_eq, k0_off26_eq,
        k0_off27_eq, k0_off28_eq, k0_off29_eq, k0_off30_eq, k0_off31_eq, k0_off32_eq]
  exact fun r g h => absurd h (Nat.not_lt_zero _)

/-! ## What a trip's pieces cover -/

theorem cover_cons {e : EltTy} (k b : ℕ) (y : S1024x4096.Idx) (off : Fin 2 → ℕ) (inb : ∀ a, off a + S32x128.size a ≤ S1024x4096.size a)
    (w : S32x128.Idx → (Elt Ideal e)) (L : List (View.Piece (Elt Ideal) S1024x4096 e)) (ho : off = ![32 * k, 128 * b])
    (h0 : 32 * k ≤ (y 0).val ∧ (y 0).val < 32 * (k + 1))
    (hL : (y 1).val < 128 * b → ∃ p ∈ L, y ∈ p.1.set) (h1 : (y 1).val < 128 * (b + 1)) :
    ∃ p ∈ (⟨Rect.unit off S32x128.size inb, w⟩ : View.Piece (Elt Ideal) S1024x4096 e) :: L, y ∈ p.1.set := by
  subst ho
  by_cases h : (y 1).val < 128 * b
  · obtain ⟨p, hp, hy⟩ := hL h
    exact ⟨p, List.mem_cons_of_mem _ hp, hy⟩
  · refine ⟨_, List.mem_cons_self, (Rect.mem_set_unit (inb := inb)).mpr fun a => ?_⟩
    match a with
    | ⟨0, _⟩ => exact ⟨h0.1, by show (y 0).val < 32 * k + 32; omega⟩
    | ⟨1, _⟩ => exact ⟨by show 128 * b ≤ (y 1).val; omega, by show (y 1).val < 128 * b + 128; omega⟩

theorem trip_codes_cover (y : S1024x4096.Idx) (h0 : 32 * k.val ≤ (y 0).val ∧ (y 0).val < 32 * (k.val + 1)) :
    ∃ p ∈ (tripL_k0_t1 (F := Ideal) 𝒱 c bd i arg2 harg2 arg3 harg3 arg4 harg4 arg5 harg5 arg6 harg6 arg7 harg7 arg8 harg8 arg9 harg9 arg10 harg10 arg11 harg11 k0_h1 X_arg2 k).1, y ∈ p.1.set := by
  have h1 : (y 1).val < 128 * 32 := (y 1).isLt
  unfold tripL_k0_t1 trip_k0_t1
  dsimp only
  revert h1
  iterate 32
    refine cover_cons k.val _ y _ _ _ _ ?_ h0 ?_
    · simp only [k0_off1_eq, k0_off2_eq, k0_off3_eq, k0_off4_eq, k0_off5_eq, k0_off6_eq, k0_off7_eq,
        k0_off8_eq, k0_off9_eq, k0_off10_eq, k0_off11_eq, k0_off12_eq, k0_off13_eq, k0_off14_eq,
        k0_off15_eq, k0_off16_eq, k0_off17_eq, k0_off18_eq, k0_off19_eq, k0_off20_eq,
        k0_off21_eq, k0_off22_eq, k0_off23_eq, k0_off24_eq, k0_off25_eq, k0_off26_eq,
        k0_off27_eq, k0_off28_eq, k0_off29_eq, k0_off30_eq, k0_off31_eq, k0_off32_eq]
  exact fun h => absurd h (Nat.not_lt_zero _)

theorem trip_deq_cover (y : S1024x4096.Idx) (h0 : 32 * k.val ≤ (y 0).val ∧ (y 0).val < 32 * (k.val + 1)) :
    ∃ p ∈ (tripL_k0_t1 (F := Ideal) 𝒱 c bd i arg2 harg2 arg3 harg3 arg4 harg4 arg5 harg5 arg6 harg6 arg7 harg7 arg8 harg8 arg9 harg9 arg10 harg10 arg11 harg11 k0_h1 X_arg2 k).2.2, y ∈ p.1.set := by
  have h1 : (y 1).val < 128 * 32 := (y 1).isLt
  unfold tripL_k0_t1 trip_k0_t1
  dsimp only
  revert h1
  iterate 32
    refine cover_cons k.val _ y _ _ _ _ ?_ h0 ?_
    · simp only [k0_off1_eq, k0_off2_eq, k0_off3_eq, k0_off4_eq, k0_off5_eq, k0_off6_eq, k0_off7_eq,
        k0_off8_eq, k0_off9_eq, k0_off10_eq, k0_off11_eq, k0_off12_eq, k0_off13_eq, k0_off14_eq,
        k0_off15_eq, k0_off16_eq, k0_off17_eq, k0_off18_eq, k0_off19_eq, k0_off20_eq,
        k0_off21_eq, k0_off22_eq, k0_off23_eq, k0_off24_eq, k0_off25_eq, k0_off26_eq,
        k0_off27_eq, k0_off28_eq, k0_off29_eq, k0_off30_eq, k0_off31_eq, k0_off32_eq]
  exact fun h => absurd h (Nat.not_lt_zero _)

theorem cover_scales {e : EltTy} (k : ℕ) (y : S1024x32.Idx) (off : Fin 2 → ℕ) (inb : ∀ a, off a + S32x32.size a ≤ S1024x32.size a)
    (w : S32x32.Idx → (Elt Ideal e)) (L : List (View.Piece (Elt Ideal) S1024x32 e)) (ho : off = ![32 * k, 0])
    (h0 : 32 * k ≤ (y 0).val ∧ (y 0).val < 32 * (k + 1)) :
    ∃ p ∈ (⟨Rect.unit off S32x32.size inb, w⟩ : View.Piece (Elt Ideal) S1024x32 e) :: L, y ∈ p.1.set := by
  subst ho
  have h1 : (y 1).val < 32 := (y 1).isLt
  refine ⟨_, List.mem_cons_self, (Rect.mem_set_unit (inb := inb)).mpr fun a => ?_⟩
  match a with
  | ⟨0, _⟩ => exact ⟨h0.1, by show (y 0).val < 32 * k + 32; omega⟩
  | ⟨1, _⟩ => exact ⟨Nat.zero_le _, by show (y 1).val < 0 + 32; omega⟩

theorem trip_scales_cover (y : S1024x32.Idx) (h0 : 32 * k.val ≤ (y 0).val ∧ (y 0).val < 32 * (k.val + 1)) :
    ∃ p ∈ (tripL_k0_t1 (F := Ideal) 𝒱 c bd i arg2 harg2 arg3 harg3 arg4 harg4 arg5 harg5 arg6 harg6 arg7 harg7 arg8 harg8 arg9 harg9 arg10 harg10 arg11 harg11 k0_h1 X_arg2 k).2.1, y ∈ p.1.set := by
  unfold tripL_k0_t1 trip_k0_t1
  dsimp only
  exact cover_scales k.val y _ _ _ _ (k0_off33_eq k) h0

/-! ## The pieces of the whole loop -/

/-- Every piece the trips before `n` write holds the block's codes, rows or scales, -/
theorem pb_pieces (n : ℕ) (hn : n ≤ k0_t1_loop.trips) :
    (∀ p ∈ (pb_k0_t1 (F := Ideal) 𝒱 c bd i arg2 harg2 arg3 harg3 arg4 harg4 arg5 harg5 arg6 harg6 arg7 harg7 arg8 harg8 arg9 harg9 arg10 harg10 arg11 harg11 k0_h1 X_arg2 n).1, ∀ x, p.2 x = codesOf (arg2.view.read (Elt Ideal) X_arg2) (p.1.emb x))
    ∧ (∀ p ∈ (pb_k0_t1 (F := Ideal) 𝒱 c bd i arg2 harg2 arg3 harg3 arg4 harg4 arg5 harg5 arg6 harg6 arg7 harg7 arg8 harg8 arg9 harg9 arg10 harg10 arg11 harg11 k0_h1 X_arg2 n).2.1, ∀ x, p.2 x = scalesOf (arg2.view.read (Elt Ideal) X_arg2) (p.1.emb x))
    ∧ (∀ p ∈ (pb_k0_t1 (F := Ideal) 𝒱 c bd i arg2 harg2 arg3 harg3 arg4 harg4 arg5 harg5 arg6 harg6 arg7 harg7 arg8 harg8 arg9 harg9 arg10 harg10 arg11 harg11 k0_h1 X_arg2 n).2.2, ∀ x, p.2 x = deqOf (arg2.view.read (Elt Ideal) X_arg2) (p.1.emb x)) := by
  induction n with
  | zero =>
    rw [pb_k0_t1.eq_1]
    exact ⟨fun p hp => absurd hp List.not_mem_nil, fun p hp => absurd hp List.not_mem_nil, fun p hp => absurd hp List.not_mem_nil⟩
  | succ n ih =>
    obtain ⟨h1, h2, h3⟩ := ih (by omega)
    have e := pb_k0_t1_succ (F := Ideal) 𝒱 c bd i arg2 harg2 arg3 harg3 arg4 harg4 arg5 harg5 arg6 harg6 arg7 harg7 arg8 harg8 arg9 harg9 arg10 harg10 arg11 harg11 k0_h1 X_arg2 ⟨n, hn⟩
    dsimp only at e
    rw [e]
    refine ⟨fun p hp => ?_, fun p hp => ?_, fun p hp => ?_⟩
    · exact (List.mem_append.mp hp).elim (trip_codes 𝒱 c bd i arg2 harg2 arg3 harg3 arg4 harg4 arg5 harg5 arg6 harg6 arg7 harg7 arg8 harg8 arg9 harg9 arg10 harg10 arg11 harg11 k0_h1 X_arg2 ⟨n, hn⟩ p) (h1 p)
    · exact (List.mem_append.mp hp).elim (trip_scales 𝒱 c bd i arg2 harg2 arg3 harg3 arg4 harg4 arg5 harg5 arg6 harg6 arg7 harg7 arg8 harg8 arg9 harg9 arg10 harg10 arg11 harg11 k0_h1 X_arg2 ⟨n, hn⟩ p) (h2 p)
    · exact (List.mem_append.mp hp).elim (trip_deq 𝒱 c bd i arg2 harg2 arg3 harg3 arg4 harg4 arg5 harg5 arg6 harg6 arg7 harg7 arg8 harg8 arg9 harg9 arg10 harg10 arg11 harg11 k0_h1 X_arg2 ⟨n, hn⟩ p) (h3 p)

/-- and they cover the rows before `32 * n`. -/
theorem pb_cover (n : ℕ) (hn : n ≤ k0_t1_loop.trips) :
    (∀ y : S1024x4096.Idx, (y 0).val < 32 * n → ∃ p ∈ (pb_k0_t1 (F := Ideal) 𝒱 c bd i arg2 harg2 arg3 harg3 arg4 harg4 arg5 harg5 arg6 harg6 arg7 harg7 arg8 harg8 arg9 harg9 arg10 harg10 arg11 harg11 k0_h1 X_arg2 n).1, y ∈ p.1.set)
    ∧ (∀ y : S1024x32.Idx, (y 0).val < 32 * n → ∃ p ∈ (pb_k0_t1 (F := Ideal) 𝒱 c bd i arg2 harg2 arg3 harg3 arg4 harg4 arg5 harg5 arg6 harg6 arg7 harg7 arg8 harg8 arg9 harg9 arg10 harg10 arg11 harg11 k0_h1 X_arg2 n).2.1, y ∈ p.1.set)
    ∧ (∀ y : S1024x4096.Idx, (y 0).val < 32 * n → ∃ p ∈ (pb_k0_t1 (F := Ideal) 𝒱 c bd i arg2 harg2 arg3 harg3 arg4 harg4 arg5 harg5 arg6 harg6 arg7 harg7 arg8 harg8 arg9 harg9 arg10 harg10 arg11 harg11 k0_h1 X_arg2 n).2.2, y ∈ p.1.set) := by
  induction n with
  | zero => exact ⟨fun y h => absurd h (Nat.not_lt_zero _), fun y h => absurd h (Nat.not_lt_zero _), fun y h => absurd h (Nat.not_lt_zero _)⟩
  | succ n ih =>
    obtain ⟨h1, h2, h3⟩ := ih (by omega)
    have e := pb_k0_t1_succ (F := Ideal) 𝒱 c bd i arg2 harg2 arg3 harg3 arg4 harg4 arg5 harg5 arg6 harg6 arg7 harg7 arg8 harg8 arg9 harg9 arg10 harg10 arg11 harg11 k0_h1 X_arg2 ⟨n, hn⟩
    dsimp only at e
    rw [e]
    refine ⟨fun y hy => ?_, fun y hy => ?_, fun y hy => ?_⟩
    · by_cases h : (y 0).val < 32 * n
      · obtain ⟨p, hp, hm⟩ := h1 y h
        exact ⟨p, List.mem_append_right _ hp, hm⟩
      · obtain ⟨p, hp, hm⟩ := trip_codes_cover 𝒱 c bd i arg2 harg2 arg3 harg3 arg4 harg4 arg5 harg5 arg6 harg6 arg7 harg7 arg8 harg8 arg9 harg9 arg10 harg10 arg11 harg11 k0_h1 X_arg2 ⟨n, hn⟩ y ⟨by show 32 * n ≤ _; omega, hy⟩
        exact ⟨p, List.mem_append_left _ hp, hm⟩
    · by_cases h : (y 0).val < 32 * n
      · obtain ⟨p, hp, hm⟩ := h2 y h
        exact ⟨p, List.mem_append_right _ hp, hm⟩
      · obtain ⟨p, hp, hm⟩ := trip_scales_cover 𝒱 c bd i arg2 harg2 arg3 harg3 arg4 harg4 arg5 harg5 arg6 harg6 arg7 harg7 arg8 harg8 arg9 harg9 arg10 harg10 arg11 harg11 k0_h1 X_arg2 ⟨n, hn⟩ y ⟨by show 32 * n ≤ _; omega, hy⟩
        exact ⟨p, List.mem_append_left _ hp, hm⟩
    · by_cases h : (y 0).val < 32 * n
      · obtain ⟨p, hp, hm⟩ := h3 y h
        exact ⟨p, List.mem_append_right _ hp, hm⟩
      · obtain ⟨p, hp, hm⟩ := trip_deq_cover 𝒱 c bd i arg2 harg2 arg3 harg3 arg4 harg4 arg5 harg5 arg6 harg6 arg7 harg7 arg8 harg8 arg9 harg9 arg10 harg10 arg11 harg11 k0_h1 X_arg2 ⟨n, hn⟩ y ⟨by show 32 * n ≤ _; omega, hy⟩
        exact ⟨p, List.mem_append_left _ hp, hm⟩

theorem trips_eq : k0_t1_loop.trips = 32 := by decide

/-- After the loop the block of codes reads the block's codes, -/
theorem loop_codes (f : arg8.view.ty.Contents (Elt Ideal)) :
    arg8.view.read (Elt Ideal) (arg8.view.writes (Elt Ideal) f (pb_k0_t1 (F := Ideal) 𝒱 c bd i arg2 harg2 arg3 harg3 arg4 harg4 arg5 harg5 arg6 harg6 arg7 harg7 arg8 harg8 arg9 harg9 arg10 harg10 arg11 harg11 k0_h1 X_arg2 k0_t1_loop.trips).1) = codesOf (arg2.view.read (Elt Ideal) X_arg2) :=
  funext fun y => View.read_writes_apply_of_pieces _ _ _ _ (pb_pieces 𝒱 c bd i arg2 harg2 arg3 harg3 arg4 harg4 arg5 harg5 arg6 harg6 arg7 harg7 arg8 harg8 arg9 harg9 arg10 harg10 arg11 harg11 k0_h1 X_arg2 _ le_rfl).1 y
    ((pb_cover 𝒱 c bd i arg2 harg2 arg3 harg3 arg4 harg4 arg5 harg5 arg6 harg6 arg7 harg7 arg8 harg8 arg9 harg9 arg10 harg10 arg11 harg11 k0_h1 X_arg2 _ le_rfl).1 y (by rw [trips_eq]; exact (y 0).isLt))

/-- the block of scales its scales, -/
theorem loop_scales (f : arg9.view.ty.Contents (Elt Ideal)) :
    arg9.view.read (Elt Ideal) (arg9.view.writes (Elt Ideal) f (pb_k0_t1 (F := Ideal) 𝒱 c bd i arg2 harg2 arg3 harg3 arg4 harg4 arg5 harg5 arg6 harg6 arg7 harg7 arg8 harg8 arg9 harg9 arg10 harg10 arg11 harg11 k0_h1 X_arg2 k0_t1_loop.trips).2.1) = scalesOf (arg2.view.read (Elt Ideal) X_arg2) :=
  funext fun y => View.read_writes_apply_of_pieces _ _ _ _ (pb_pieces 𝒱 c bd i arg2 harg2 arg3 harg3 arg4 harg4 arg5 harg5 arg6 harg6 arg7 harg7 arg8 harg8 arg9 harg9 arg10 harg10 arg11 harg11 k0_h1 X_arg2 _ le_rfl).2.1 y
    ((pb_cover 𝒱 c bd i arg2 harg2 arg3 harg3 arg4 harg4 arg5 harg5 arg6 harg6 arg7 harg7 arg8 harg8 arg9 harg9 arg10 harg10 arg11 harg11 k0_h1 X_arg2 _ le_rfl).2.1 y (by rw [trips_eq]; exact (y 0).isLt))

/-- and the scratch block the rows they stand for. -/
theorem loop_deq (f : arg10.view.ty.Contents (Elt Ideal)) :
    arg10.view.read (Elt Ideal) (arg10.view.writes (Elt Ideal) f (pb_k0_t1 (F := Ideal) 𝒱 c bd i arg2 harg2 arg3 harg3 arg4 harg4 arg5 harg5 arg6 harg6 arg7 harg7 arg8 harg8 arg9 harg9 arg10 harg10 arg11 harg11 k0_h1 X_arg2 k0_t1_loop.trips).2.2) = deqOf (arg2.view.read (Elt Ideal) X_arg2) :=
  funext fun y => View.read_writes_apply_of_pieces _ _ _ _ (pb_pieces 𝒱 c bd i arg2 harg2 arg3 harg3 arg4 harg4 arg5 harg5 arg6 harg6 arg7 harg7 arg8 harg8 arg9 harg9 arg10 harg10 arg11 harg11 k0_h1 X_arg2 _ le_rfl).2.2 y
    ((pb_cover 𝒱 c bd i arg2 harg2 arg3 harg3 arg4 harg4 arg5 harg5 arg6 harg6 arg7 harg7 arg8 harg8 arg9 harg9 arg10 harg10 arg11 harg11 k0_h1 X_arg2 _ le_rfl).2.2 y (by rw [trips_eq]; exact (y 0).isLt))

end Cert.KernelIdeal.Gen

end
-- ==== Proof.BodyValues.lean ====
/- What the body computes of its blocks: the weights it dequantises, the hidden block, its codes and its scales. -/
module

public import proofs.«01_k».proof.Proof.TripValues
public import proofs.«01_k».proof.Proof.IdealRuns
public import Idealize.ShloMosaic.Lib.Pointwise.Contract
public import Idealize.ShloMosaic.Lib.VecWindow

@[expose] public section

set_option maxRecDepth 16384

noncomputable section

namespace Cert.KernelIdeal.Gen

open Idealize.ShloMosaic.TcCoe Idealize.ShloMosaic.ValueIdx Cert.Spec
open Idealize.ShloMosaic hiding ix1 ix2 ix3 ix4 eq_ix1 eq_ix2 eq_ix3 eq_ix4

/-- The grid's column. -/
def gcol (i : grid0.Coords) : Fin 43 := i 1

/-- The rows of weights a grid column multiplies by: 128 rows of gate weights, then 128 of up weights, each dequantised by its row of scales. -/
def wblk (x1 x2 : S128x4096.Idx → EReal) (x3 : S86x32.Idx → EReal) (j : Fin 43) (y : S256x4096.Idx) : EReal :=
  if h : (y 0).val < 128 then wdeq (rowOf x1 ⟨(y 0).val, h⟩) (rowOf x3 ⟨j.val, by omega⟩) (y 1)
  else wdeq (rowOf x2 ⟨(y 0).val - 128, by have : (y 0).val < 256 := (y 0).isLt; omega⟩) (rowOf x3 ⟨j.val + 43, by omega⟩) (y 1)

theorem pay255_apply (s : EReal) (v : Vec Ideal S128x128 .fp8e4m3) (y : S128x128.Idx) : k0_pay255 (F := Ideal) s v y = v y * s := by
  unfold k0_pay255
  rw [shapeCast_self]
  rfl

theorem scalar_read (w : View sig .tc .smem S86x32 .f32) (Y : w.ty.Contents (Elt Ideal)) (so : Fin 2 → ℕ)
    (sinb : ∀ a, so a + S1x1.size a ≤ S86x32.size a) (hne : 0 < S1x1.numel) (p : Fin 86) (b : Fin 32) (h0 : so 0 = p.val) (h1 : so 1 = b.val) :
    w.readAt (Elt Ideal) (Rect.unit (s := S86x32) so S1x1.size sinb).toLoadRect Y (Shape.Idx.first hne) = w.read (Elt Ideal) Y (ix2 p b) := by
  refine congrArg (w.read (Elt Ideal) Y) (funext fun a => Fin.ext ?_)
  match a with
  | ⟨0, _⟩ => show so 0 + 1 * 0 = p.val; omega
  | ⟨1, _⟩ => show so 1 + 1 * 0 = b.val; omega

section Tiles

variable (v : View sig .tc .vmem S128x4096 .fp8e4m3) (X : v.ty.Contents (Elt Ideal)) (w : View sig .tc .smem S86x32 .f32) (Y : w.ty.Contents (Elt Ideal))
  (x12 z : S128x4096.Idx → EReal) (x3 : S86x32.Idx → EReal) (hX : v.read (Elt Ideal) X = x12) (hY : w.read (Elt Ideal) Y = x3) (j : Fin 43)

include hX hY

theorem tile_lo (o : ℕ) (inb : ∀ a, (![0, o] : Fin 2 → ℕ) a + S128x128.size a ≤ S128x4096.size a)
    (inb' : ∀ a, (![0, o] : Fin 2 → ℕ) a + S128x128.size a ≤ S256x4096.size a) (so : Fin 2 → ℕ)
    (sinb : ∀ a, so a + S1x1.size a ≤ S86x32.size a) (hne : 0 < S1x1.numel) (ho : o % 128 = 0 ∧ o < 4096) (h0 : so 0 = j.val + 43 * 0) (h1 : so 1 = o / 128)
    (x : S128x128.Idx) :
    k0_pay255 (F := Ideal) (w.readAt (Elt Ideal) (Rect.unit (s := S86x32) so S1x1.size sinb).toLoadRect Y (Shape.Idx.first hne))
        (v.readAt (Elt Ideal) (Rect.unit (s := S128x4096) ![0, o] S128x128.size inb).toLoadRect X) x
      = wblk x12 z x3 j ((Rect.unit (s := S256x4096) ![0, o] S128x128.size inb').emb x) := by
  obtain ⟨r, k, rfl⟩ : ∃ (r : Fin 128) (k : Fin 128), x = ix2 r k := ⟨x 0, x 1, eq_ix2 x⟩
  subst hX hY
  have hk := k.isLt
  have hr := r.isLt
  have e0 : ((Rect.unit (s := S256x4096) ![0, o] S128x128.size inb').emb (ix2 r k) 0).val = r.val := by
    show 0 + 1 * r.val = r.val; omega
  have e1 : ((Rect.unit (s := S256x4096) ![0, o] S128x128.size inb').emb (ix2 r k) 1).val = o + k.val := by
    show o + 1 * k.val = o + k.val; omega
  rw [pay255_apply, scalar_read w Y so sinb hne ⟨j.val, by omega⟩ ⟨o / 128, by omega⟩ h0 h1]
  unfold wblk
  rw [dif_pos (by omega)]
  unfold wdeq
  congr 1
  · refine congrArg (v.read (Elt Ideal) X) (funext fun a => Fin.ext ?_)
    match a with
    | ⟨0, _⟩ => show 0 + 1 * r.val = _; rw [Nat.one_mul, Nat.zero_add]; exact e0.symm
    | ⟨1, _⟩ => show o + 1 * k.val = _; rw [Nat.one_mul]; exact e1.symm
  · unfold rowOf
    congr 2
    apply Fin.ext
    show o / 128 = (((Rect.unit (s := S256x4096) ![0, o] S128x128.size inb').emb (ix2 r k) 1).val) / 128
    rw [e1]; omega

theorem tile_hi (o : ℕ) (inb : ∀ a, (![0, o] : Fin 2 → ℕ) a + S128x128.size a ≤ S128x4096.size a)
    (inb' : ∀ a, (![128, o] : Fin 2 → ℕ) a + S128x128.size a ≤ S256x4096.size a) (so : Fin 2 → ℕ)
    (sinb : ∀ a, so a + S1x1.size a ≤ S86x32.size a) (hne : 0 < S1x1.numel) (ho : o % 128 = 0 ∧ o < 4096) (h0 : so 0 = j.val + 43 * 1) (h1 : so 1 = o / 128)
    (x : S128x128.Idx) :
    k0_pay255 (F := Ideal) (w.readAt (Elt Ideal) (Rect.unit (s := S86x32) so S1x1.size sinb).toLoadRect Y (Shape.Idx.first hne))
        (v.readAt (Elt Ideal) (Rect.unit (s := S128x4096) ![0, o] S128x128.size inb).toLoadRect X) x
      = wblk z x12 x3 j ((Rect.unit (s := S256x4096) ![128, o] S128x128.size inb').emb x) := by
  obtain ⟨r, k, rfl⟩ : ∃ (r : Fin 128) (k : Fin 128), x = ix2 r k := ⟨x 0, x 1, eq_ix2 x⟩
  subst hX hY
  have hk := k.isLt
  have hr := r.isLt
  have e0 : ((Rect.unit (s := S256x4096) ![128, o] S128x128.size inb').emb (ix2 r k) 0).val = 128 + r.val := by
    show 128 + 1 * r.val = 128 + r.val; omega
  have e1 : ((Rect.unit (s := S256x4096) ![128, o] S128x128.size inb').emb (ix2 r k) 1).val = o + k.val := by
    show o + 1 * k.val = o + k.val; omega
  rw [pay255_apply, scalar_read w Y so sinb hne ⟨j.val + 43, by omega⟩ ⟨o / 128, by omega⟩ h0 h1]
  unfold wblk
  rw [dif_neg (by omega)]
  unfold wdeq
  congr 1
  · refine congrArg (v.read (Elt Ideal) X) (funext fun a => Fin.ext ?_)
    match a with
    | ⟨0, _⟩ =>
      show 0 + 1 * r.val = ((Rect.unit (s := S256x4096) ![128, o] S128x128.size inb').emb (ix2 r k) 0).val - 128
      rw [e0]; omega
    | ⟨1, _⟩ => show o + 1 * k.val = _; rw [Nat.one_mul]; exact e1.symm
  · unfold rowOf
    congr 2
    apply Fin.ext
    show o / 128 = (((Rect.unit (s := S256x4096) ![128, o] S128x128.size inb').emb (ix2 r k) 1).val) / 128
    rw [e1]; omega

end Tiles

/-- Two tiles, one below the other, before pieces that cover the columns before them. -/
theorem cover_two {e : EltTy} (b : ℕ) (y : S256x4096.Idx) (o : ℕ) (inb0 : ∀ a, (![0, o] : Fin 2 → ℕ) a + S128x128.size a ≤ S256x4096.size a)
    (inb1 : ∀ a, (![128, o] : Fin 2 → ℕ) a + S128x128.size a ≤ S256x4096.size a)
    (w0 w1 : S128x128.Idx → (Elt Ideal e)) (L : List (View.Piece (Elt Ideal) S256x4096 e)) (ho : o = 128 * b)
    (hL : (y 1).val < 128 * b → ∃ p ∈ L, y ∈ p.1.set) (h1 : (y 1).val < 128 * (b + 1)) :
    ∃ p ∈ (⟨Rect.unit ![128, o] S128x128.size inb1, w1⟩ : View.Piece (Elt Ideal) S256x4096 e)
        :: (⟨Rect.unit ![0, o] S128x128.size inb0, w0⟩ : View.Piece (Elt Ideal) S256x4096 e) :: L, y ∈ p.1.set := by
  have hy : (y 0).val < 256 := (y 0).isLt
  by_cases h : (y 1).val < 128 * b
  · obtain ⟨p, hp, hy⟩ := hL h
    exact ⟨p, List.mem_cons_of_mem _ (List.mem_cons_of_mem _ hp), hy⟩
  · by_cases hr : (y 0).val < 128
    · refine ⟨_, List.mem_cons_of_mem _ List.mem_cons_self, (Rect.mem_set_unit (inb := inb0)).mpr fun a => ?_⟩
      match a with
      | ⟨0, _⟩ => exact ⟨Nat.zero_le _, by show (y 0).val < 0 + 128; omega⟩
      | ⟨1, _⟩ => exact ⟨by show o ≤ (y 1).val; omega, by show (y 1).val < o + 128; omega⟩
    · refine ⟨_, List.mem_cons_self, (Rect.mem_set_unit (inb := inb1)).mpr fun a => ?_⟩
      match a with
      | ⟨0, _⟩ => exact ⟨by show 128 ≤ (y 0).val; omega, by show (y 0).val < 128 + 128; omega⟩
      | ⟨1, _⟩ => exact ⟨by show o ≤ (y 1).val; omega, by show (y 1).val < o + 128; omega⟩

theorem col_off (i : grid0.Coords) (r : Fin 2) : k0_off34 i (BitVec.ofNat 32 (43 * r.val)) 0 = (gcol i).val + 43 * r.val :=
  congrFun (k0_off34_eq i r) 0

/-! ## The hidden block -/

/-- The product read at an index. -/
theorem prod_apply (xq : FVec Ideal S1024x4096 .bf16) (wq : FVec Ideal S256x4096 .bf16) (r : Fin 1024) (n : Fin 256) :
    (matmul dot_S1024x4096_S256x4096_S1024x256_1_1_0_0_n_n none xq wq (constant S1024x256 .f32 0x00000000#32) : FVec Ideal S1024x256 .f32) (ix2 r n)
      = (∑ c : Fin 4096, xq (ix2 r c) * wq (ix2 n c) : EReal) := by
  refine (Ideal.matmul_apply₁_of dot_S1024x4096_S256x4096_S1024x256_1_1_0_0_n_n rfl rfl xq wq _ (ix2 r n) (fun c => ix2 r c) (fun c => ix2 n c) ?_ ?_).trans ?_
  · intro k
    funext a
    match a with
    | ⟨0, _⟩ => rfl
    | ⟨1, _⟩ => rfl
  · intro k
    funext a
    match a with
    | ⟨0, _⟩ => rfl
    | ⟨1, _⟩ => rfl
  · exact (congrArg (· + _) ofBits_zero).trans (zero_add _)

/-- Gate and up out of the product, through the gate's logistic. -/
theorem gate_apply (P : FVec Ideal S1024x256 .f32) (r : Fin 1024) (k : Fin 128) :
    mulf (mulf (extractStridedSlice S1024x128 ![0, 0] P slices_S1024x256_o0_0_S1024x128)
        (logistic (extractStridedSlice S1024x128 ![0, 0] P slices_S1024x256_o0_0_S1024x128)))
      (extractStridedSlice S1024x128 ![0, 128] P slices_S1024x256_o0_128_S1024x128) (ix2 r k)
      = swiglu (P (ix2 r ⟨k.val, by omega⟩)) (P (ix2 r ⟨128 + k.val, by omega⟩)) := by
  have eg : extractStridedSlice S1024x128 ![0, 0] P slices_S1024x256_o0_0_S1024x128 (ix2 r k) = P (ix2 r ⟨k.val, by omega⟩) := by
    refine congrArg P (funext fun a => Fin.ext ?_)
    match a with
    | ⟨0, _⟩ => exact Nat.zero_add _
    | ⟨1, _⟩ => exact Nat.zero_add _
  have eu : extractStridedSlice S1024x128 ![0, 128] P slices_S1024x256_o0_128_S1024x128 (ix2 r k) = P (ix2 r ⟨128 + k.val, by omega⟩) := by
    refine congrArg P (funext fun a => Fin.ext ?_)
    match a with
    | ⟨0, _⟩ => exact Nat.zero_add _
    | ⟨1, _⟩ => rfl
  have el : logistic (extractStridedSlice S1024x128 ![0, 0] P slices_S1024x256_o0_0_S1024x128) (ix2 r k)
      = Ideal.logistic (extractStridedSlice S1024x128 ![0, 0] P slices_S1024x256_o0_0_S1024x128 (ix2 r k)) := rfl
  rw [mulf_apply, mulf_apply, el, eg, eu]
  rfl

/-- The hidden block: gate and up of rows `xq` and weights `wq`, through the gate's logistic. -/
theorem hidden_apply (xq : FVec Ideal S1024x4096 .bf16) (wq : FVec Ideal S256x4096 .bf16) (r : Fin 1024) (k : Fin 128) :
    k0_pay338 (F := Ideal) xq wq (ix2 r k)
      = swiglu (∑ c : Fin 4096, xq (ix2 r c) * wq (ix2 ⟨k.val, by omega⟩ c)) (∑ c : Fin 4096, xq (ix2 r c) * wq (ix2 ⟨128 + k.val, by omega⟩ c)) :=
  (gate_apply _ r k).trans (congrArg₂ swiglu (prod_apply xq wq r _) (prod_apply xq wq r _))

/-- The codes the body stores of the hidden block, -/
theorem hcodes_apply (xq : FVec Ideal S1024x4096 .bf16) (wq : FVec Ideal S256x4096 .bf16) (r : Fin 1024) (k : Fin 128) :
    k0_pay343 (F := Ideal) (k0_pay338 (F := Ideal) xq wq) (k0_pay340 (F := Ideal) xq wq) (k0_pay341 (F := Ideal) xq wq) 2139095040#32 (ix2 r k)
      = qcode (fun k => k0_pay338 (F := Ideal) xq wq (ix2 r k)) k :=
  codeVec_apply reduces_S1024x128_S1024 shapeCasts_S1024_S1024x1 iota_S1024x247_d1_w32 broadcasts_S1024x1_S1024x247 reduces_S1024x247_S1024
    broadcasts_S1024x1_S1024x128 (k0_pay338 (F := Ideal) xq wq) r k

/-- and its scales, in the grid's column; the others as they were. -/
theorem hscales_apply (j : ℕ) (hj : j < 43) (xq : FVec Ideal S1024x4096 .bf16) (wq : FVec Ideal S256x4096 .bf16) (old : Vec Ideal S1024x43 .f32) (r : Fin 1024) (l : Fin 43) :
    k0_pay344 (F := Ideal) (BitVec.ofNat 32 j) (k0_pay340 (F := Ideal) xq wq) (k0_pay341 (F := Ideal) xq wq) 2139095040#32 old (ix2 r l)
      = if l.val = j then qscale (fun k => k0_pay338 (F := Ideal) xq wq (ix2 r k)) else old (ix2 r l) := by
  have e2 : broadcastTo S1024x43 (shapeCast S1024x1 (scaleVec reduces_S1024x128_S1024 shapeCasts_S1024_S1024x1 iota_S1024x247_d1_w32
      broadcasts_S1024x1_S1024x247 reduces_S1024x247_S1024 (k0_pay338 (F := Ideal) xq wq)) shapeCasts_S1024x1_S1024x1) broadcasts_S1024x1_S1024x43 (ix2 r l)
      = qscale (fun k => k0_pay338 (F := Ideal) xq wq (ix2 r k)) := by
    rw [shapeCast_self]
    refine (broadcastTo_apply _ _ (ix2 r l) (ix2 r 0) ?_).trans (scaleVec_apply _ _ _ _ _ _ r 0)
    intro a
    match a with
    | ⟨0, _⟩ => rfl
    | ⟨1, _⟩ => rfl
  have e1 : iota .tc S1024x43 32 [1] iota_S1024x43_d1_w32 (ix2 r l) = BitVec.ofNat 32 l.val := iota_single_apply _ _ _ _ _ _
  have e4 : shapeCast S1024x43 old shapeCasts_S1024x43_S1024x43 (ix2 r l) = old (ix2 r l) := congrFun (shapeCast_self (s := S1024x43) old _) _
  have e3 : IntOp.cmpi .eq (BitVec.ofNat 32 l.val) (BitVec.ofNat 32 j) = BitVec.ofBool (decide (l.val = j)) := by
    show BitVec.ofBool (BitVec.ofNat 32 l.val == BitVec.ofNat 32 j) = _
    congr 1
    rw [Bool.eq_iff_iff, beq_iff_eq, decide_eq_true_iff]
    constructor
    · intro h
      have := congrArg BitVec.toNat h
      rw [BitVec.toNat_ofNat, BitVec.toNat_ofNat] at this
      omega
    · intro h; rw [h]
  refine Eq.trans (b := Scalar.select (IntOp.cmpi .eq (iota .tc S1024x43 32 [1] iota_S1024x43_d1_w32 (ix2 r l)) (BitVec.ofNat 32 j))
    (broadcastTo S1024x43 (shapeCast S1024x1 (scaleVec reduces_S1024x128_S1024 shapeCasts_S1024_S1024x1 iota_S1024x247_d1_w32
      broadcasts_S1024x1_S1024x247 reduces_S1024x247_S1024 (k0_pay338 (F := Ideal) xq wq)) shapeCasts_S1024x1_S1024x1) broadcasts_S1024x1_S1024x43 (ix2 r l))
    (shapeCast S1024x43 old shapeCasts_S1024x43_S1024x43 (ix2 r l))) (Eq.refl _) ?_
  rw [e1, e2, e3, e4, select_ofBool]

/-- The codes of a hidden block, -/
def hcodesOf (xq : S1024x4096.Idx → EReal) (wq : S256x4096.Idx → EReal) (y : S1024x128.Idx) : EReal :=
  qcode (fun k => swiglu (∑ c : Fin 4096, xq (ix2 (y 0) c) * wq (ix2 ⟨k.val, by omega⟩ c)) (∑ c : Fin 4096, xq (ix2 (y 0) c) * wq (ix2 ⟨128 + k.val, by omega⟩ c))) (y 1)

/-- and its scales, put in a column of the block of scales. -/
def hscalesOf (xq : S1024x4096.Idx → EReal) (wq : S256x4096.Idx → EReal) (j : ℕ) (old : S1024x43.Idx → EReal) (y : S1024x43.Idx) : EReal :=
  if (y 1).val = j then
    qscale (fun k => swiglu (∑ c : Fin 4096, xq (ix2 (y 0) c) * wq (ix2 ⟨k.val, by omega⟩ c)) (∑ c : Fin 4096, xq (ix2 (y 0) c) * wq (ix2 ⟨128 + k.val, by omega⟩ c)))
  else old y

theorem hcodes_eq (xq : FVec Ideal S1024x4096 .bf16) (wq : FVec Ideal S256x4096 .bf16) :
    k0_pay343 (F := Ideal) (k0_pay338 (F := Ideal) xq wq) (k0_pay340 (F := Ideal) xq wq) (k0_pay341 (F := Ideal) xq wq) 2139095040#32 = hcodesOf xq wq := by
  funext y
  obtain ⟨r, k, rfl⟩ : ∃ (r : Fin 1024) (k : Fin 128), y = ix2 r k := ⟨y 0, y 1, eq_ix2 y⟩
  exact (hcodes_apply xq wq r k).trans (congrArg (fun f => qcode f k) (funext fun k => hidden_apply xq wq r k))

theorem hscales_eq (j : ℕ) (hj : j < 43) (xq : FVec Ideal S1024x4096 .bf16) (wq : FVec Ideal S256x4096 .bf16) (old : Vec Ideal S1024x43 .f32) :
    k0_pay344 (F := Ideal) (BitVec.ofNat 32 j) (k0_pay340 (F := Ideal) xq wq) (k0_pay341 (F := Ideal) xq wq) 2139095040#32 old = hscalesOf xq wq j old := by
  funext y
  obtain ⟨r, l, rfl⟩ : ∃ (r : Fin 1024) (l : Fin 43), y = ix2 r l := ⟨y 0, y 1, eq_ix2 y⟩
  refine (hscales_apply j hj xq wq old r l).trans ?_
  rw [show (fun k => k0_pay338 (F := Ideal) xq wq (ix2 r k)) = _ from funext fun k => hidden_apply xq wq r k]
  rfl

end Cert.KernelIdeal.Gen

end
-- ==== Proof.ValueRunA.lean ====
/- What the idealized kernel's body leaves where a row block starts (case A). -/
module

public import proofs.«01_k».proof.Proof.BodyValues
public import proofs.«01_k».proof.Proof.IdealRuns

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

-- (the run's proof term is large: checking it walks past the default budget)
set_option maxHeartbeats 2028000 in
/-- The body at a row block's first column: besides the codes of the hidden block and, in its column, their scales, it leaves the rows' codes, scales and dequantised copy. -/
theorem valueRun0_A (c : Dev nD) (i : grid0.Coords) (arg2 : Memref sig .tc .vmem S1024x4096 .bf16) (harg2 : arg2.IsWhole) (arg3 : Memref sig .tc .vmem S128x4096 .fp8e4m3) (harg3 : arg3.IsWhole) (arg4 : Memref sig .tc .vmem S128x4096 .fp8e4m3) (harg4 : arg4.IsWhole) (arg5 : Memref sig .tc .smem S86x32 .f32) (harg5 : arg5.IsWhole) (arg6 : Memref sig .tc .vmem S1024x128 .fp8e4m3) (harg6 : arg6.IsWhole) (arg7 : Memref sig .tc .vmem S1024x43 .f32) (harg7 : arg7.IsWhole) (arg8 : Memref sig .tc .vmem S1024x4096 .fp8e4m3) (harg8 : arg8.IsWhole) (arg9 : Memref sig .tc .vmem S1024x32 .f32) (harg9 : arg9.IsWhole) (arg10 : Memref sig .tc .vmem S1024x4096 .bf16) (harg10 : arg10.IsWhole) (arg11 : Memref sig .tc .vmem S256x4096 .bf16) (harg11 : arg11.IsWhole) (hc0 : cond0_0 i)
    (x0 : Vec Ideal S1024x4096 .bf16) (x1 : Vec Ideal S128x4096 .fp8e4m3) (x2 : Vec Ideal S128x4096 .fp8e4m3) (x3 : Vec Ideal S86x32 .f32) (d5 : Vec Ideal S1024x43 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare d5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (hcodesOf (deqOf x0) (wblk x1 x2 x3 (gcol i))) ∗ owns (c : Thread nD τ) arg7 fullShare (hscalesOf (deqOf x0) (wblk x1 x2 x3 (gcol i)) (gcol i).val d5) ∗ owns (c : Thread nD τ) arg8 fullShare (codesOf x0) ∗ owns (c : Thread nD τ) arg9 fullShare (scalesOf x0) ∗ owns (c : Thread nD τ) arg10 fullShare (deqOf x0) ∗ (∃ d, owns (c : Thread nD τ) arg11 fullShare d)) -∗ K ⟨⟩))
          ⊢ wp frame (wpE (defs₀ (F := Ideal)) Variants.none c none) E (cc0__kernel i arg2 harg2 arg3 harg3 arg4 harg4 arg5 harg5 arg6 harg6 arg7 harg7 arg8 harg8 arg9 harg9 arg10 harg10 arg11 harg11) K := by
    intro E K
    simp only [cc0__kernel_eq_skeleton]; unfold cc0__kernel_skel
    simp only [k0_part62_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%d6, %f6, -, H6⟩, ⟨%d7, %f7, -, H7⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg7.eq_unread hf5
    sl_exec (disch := first | sl_exact hc0)
    sl_step
    iapply Hk
    have hx : arg2.view.read (Elt Ideal) (harg2.unread x0) = x0 := harg2.read_unread x0
    have h8 := (loop_codes Variants.none c none i arg2 harg2 arg3 harg3 arg4 harg4 arg5 harg5 arg6 harg6 arg7 harg7 arg8 harg8 arg9 harg9 arg10 harg10 arg11 harg11 hc0 (harg2.unread x0) f6).trans (congrArg codesOf hx)
    have h9 := (loop_scales Variants.none c none i arg2 harg2 arg3 harg3 arg4 harg4 arg5 harg5 arg6 harg6 arg7 harg7 arg8 harg8 arg9 harg9 arg10 harg10 arg11 harg11 hc0 (harg2.unread x0) f7).trans (congrArg scalesOf hx)
    have h10 := (loop_deq Variants.none c none i arg2 harg2 arg3 harg3 arg4 harg4 arg5 harg5 arg6 harg6 arg7 harg7 arg8 harg8 arg9 harg9 arg10 harg10 arg11 harg11 hc0 (harg2.unread x0) fs0).trans (congrArg deqOf hx)
    have hw : arg11.view.readCov (valueRun0_A.sl.HS1_64 c i arg3 harg3 arg4 harg4 arg5 harg5 x1 x2 x3)
        (Rect.unit (s := S256x4096) ![0, 0] S256x4096.size inb_S256x4096_S256x4096_0_0).toLoadRect = wblk x1 x2 x3 (gcol i) := by
      refine (View.readAt_full _ _ _).trans (funext fun y => ?_)
      refine View.read_writes_apply_of_pieces (Val := Elt Ideal) arg11.view _ (wblk x1 x2 x3 (gcol i)) _ ?_ y ?_
      · unfold valueRun0_A.sl.HS1_64
        iterate 32
          refine List.forall_mem_cons.mpr ⟨fun x => tile_hi arg4.view (harg4.unread x2) arg5.view (harg5.unread x3) x2 x1 x3 (harg4.read_unread x2) (harg5.read_unread x3)
              (gcol i) _ _ (by decide) _ _ _ (by decide) (by exact col_off i 1) (by rfl) x, List.forall_mem_cons.mpr ⟨fun x => tile_lo arg3.view (harg3.unread x1) arg5.view (harg5.unread x3) x1 x2 x3 (harg3.read_unread x1) (harg5.read_unread x3)
              (gcol i) _ _ (by decide) _ _ _ (by decide) (by exact col_off i 0) (by rfl) x, ?_⟩⟩
        exact fun p hp => absurd hp List.not_mem_nil
      · unfold valueRun0_A.sl.HS1_64
        have h0 : (y 1).val < 128 * 32 := (y 1).isLt
        revert h0
        iterate 32 refine cover_two _ y _ _ _ _ _ _ rfl ?_
        intro h; omega
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; swap; · iexact H4
      ipureintro
      refine (View.read_writes_full _ _ _ _ _).trans ((hcodes_eq _ _).trans ?_)
      exact congrArg₂ hcodesOf ((View.readAt_full _ _ _).trans h10) hw
    isplitl [H5]
    · iexists _; isplitr; swap; · iexact H5
      ipureintro
      refine (View.read_writes_full _ _ _ _ _).trans ((hscales_eq (gcol i).val (gcol i).isLt _ _ _).trans ?_)
      exact congr (congr (congrArg₂ hscalesOf ((View.readAt_full _ _ _).trans h10) hw) rfl) ((View.readAt_full _ _ _).trans (harg7.read_unread _))
    isplitl [H6]
    · iexists _; isplitr; swap; · iexact H6
      ipureintro; exact h8
    isplitl [H7]
    · iexists _; isplitr; swap; · iexact H7
      ipureintro; exact h9
    isplitl [HS0]
    · iexists _; isplitr; swap; · iexact HS0
      ipureintro; exact h10
    iexists _, _; isplitr; swap; · iexact HS1
    ipureintro; rfl

end Cert.KernelIdeal.Gen

end
-- ==== Proof.ValueRunB.lean ====
/- What the idealized kernel's body leaves where the rows are already dequantised (case B). -/
module

public import proofs.«01_k».proof.Proof.BodyValues
public import proofs.«01_k».proof.Proof.IdealRuns

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

-- (the run's proof term is large: checking it walks past the default budget)
set_option maxHeartbeats 2028000 in
/-- The body past a row block's first column: it leaves the codes of the hidden block and, in its column, the scales; the rows' codes, scales and dequantised copy stay. -/
theorem valueRun0_B (c : Dev nD) (i : grid0.Coords) (arg2 : Memref sig .tc .vmem S1024x4096 .bf16) (harg2 : arg2.IsWhole) (arg3 : Memref sig .tc .vmem S128x4096 .fp8e4m3) (harg3 : arg3.IsWhole) (arg4 : Memref sig .tc .vmem S128x4096 .fp8e4m3) (harg4 : arg4.IsWhole) (arg5 : Memref sig .tc .smem S86x32 .f32) (harg5 : arg5.IsWhole) (arg6 : Memref sig .tc .vmem S1024x128 .fp8e4m3) (harg6 : arg6.IsWhole) (arg7 : Memref sig .tc .vmem S1024x43 .f32) (harg7 : arg7.IsWhole) (arg8 : Memref sig .tc .vmem S1024x4096 .fp8e4m3) (harg8 : arg8.IsWhole) (arg9 : Memref sig .tc .vmem S1024x32 .f32) (harg9 : arg9.IsWhole) (arg10 : Memref sig .tc .vmem S1024x4096 .bf16) (harg10 : arg10.IsWhole) (arg11 : Memref sig .tc .vmem S256x4096 .bf16) (harg11 : arg11.IsWhole) (hc0 : ¬cond0_0 i)
    (x0 : Vec Ideal S1024x4096 .bf16) (x1 : Vec Ideal S128x4096 .fp8e4m3) (x2 : Vec Ideal S128x4096 .fp8e4m3) (x3 : Vec Ideal S86x32 .f32) (d5 : Vec Ideal S1024x43 .f32) (d6 : Vec Ideal S1024x4096 .fp8e4m3) (d7 : Vec Ideal S1024x32 .f32) (xq : Vec Ideal S1024x4096 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare d5 ∗ owns (c : Thread nD τ) arg8 fullShare d6 ∗ owns (c : Thread nD τ) arg9 fullShare d7 ∗ owns (c : Thread nD τ) arg10 fullShare xq ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (hcodesOf xq (wblk x1 x2 x3 (gcol i))) ∗ owns (c : Thread nD τ) arg7 fullShare (hscalesOf xq (wblk x1 x2 x3 (gcol i)) (gcol i).val d5) ∗ owns (c : Thread nD τ) arg8 fullShare d6 ∗ owns (c : Thread nD τ) arg9 fullShare d7 ∗ owns (c : Thread nD τ) arg10 fullShare xq ∗ (∃ d, owns (c : Thread nD τ) arg11 fullShare d)) -∗ K ⟨⟩))
          ⊢ wp frame (wpE (defs₀ (F := Ideal)) Variants.none c none) E (cc0__kernel i arg2 harg2 arg3 harg3 arg4 harg4 arg5 harg5 arg6 harg6 arg7 harg7 arg8 harg8 arg9 harg9 arg10 harg10 arg11 harg11) K := by
    intro E K
    simp only [cc0__kernel_eq_skeleton]; unfold cc0__kernel_skel
    simp only [k0_part62_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%f7, %hf7, H7⟩, ⟨%fs0, %hfs0, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg7.eq_unread hf5; obtain rfl := harg8.eq_unread hf6; obtain rfl := harg9.eq_unread hf7; obtain rfl := harg10.eq_unread hfs0
    sl_exec (disch := first | sl_exact hc0)
    sl_step
    iapply Hk
    have hw : arg11.view.readCov (valueRun0_B.sl.HS1_64 c i arg3 harg3 arg4 harg4 arg5 harg5 x1 x2 x3)
        (Rect.unit (s := S256x4096) ![0, 0] S256x4096.size inb_S256x4096_S256x4096_0_0).toLoadRect = wblk x1 x2 x3 (gcol i) := by
      refine (View.readAt_full _ _ _).trans (funext fun y => ?_)
      refine View.read_writes_apply_of_pieces (Val := Elt Ideal) arg11.view _ (wblk x1 x2 x3 (gcol i)) _ ?_ y ?_
      · unfold valueRun0_B.sl.HS1_64
        iterate 32
          refine List.forall_mem_cons.mpr ⟨fun x => tile_hi arg4.view (harg4.unread x2) arg5.view (harg5.unread x3) x2 x1 x3 (harg4.read_unread x2) (harg5.read_unread x3)
              (gcol i) _ _ (by decide) _ _ _ (by decide) (by exact col_off i 1) (by rfl) x, List.forall_mem_cons.mpr ⟨fun x => tile_lo arg3.view (harg3.unread x1) arg5.view (harg5.unread x3) x1 x2 x3 (harg3.read_unread x1) (harg5.read_unread x3)
              (gcol i) _ _ (by decide) _ _ _ (by decide) (by exact col_off i 0) (by rfl) x, ?_⟩⟩
        exact fun p hp => absurd hp List.not_mem_nil
      · unfold valueRun0_B.sl.HS1_64
        have h0 : (y 1).val < 128 * 32 := (y 1).isLt
        revert h0
        iterate 32 refine cover_two _ y _ _ _ _ _ _ rfl ?_
        intro h; omega
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; swap; · iexact H4
      ipureintro
      refine (View.read_writes_full _ _ _ _ _).trans ((hcodes_eq _ _).trans ?_)
      exact congrArg₂ hcodesOf ((View.readAt_full _ _ _).trans (harg10.read_unread _)) hw
    isplitl [H5]
    · iexists _; isplitr; swap; · iexact H5
      ipureintro
      refine (View.read_writes_full _ _ _ _ _).trans ((hscales_eq (gcol i).val (gcol i).isLt _ _ _).trans ?_)
      exact congr (congr (congrArg₂ hscalesOf ((View.readAt_full _ _ _).trans (harg10.read_unread _)) hw) rfl) ((View.readAt_full _ _ _).trans (harg7.read_unread _))
    isplitl [H6]
    · iexists _; isplitr; · ipureintro; exact harg8.read_unread _
      iexact H6
    isplitl [H7]
    · iexists _; isplitr; · ipureintro; exact harg9.read_unread _
      iexact H7
    isplitl [HS0]
    · iexists _; isplitr; · ipureintro; exact harg10.read_unread _
      iexact HS0
    iexists _, _; isplitr; swap; · iexact HS1
    ipureintro; rfl

end Cert.KernelIdeal.Gen

end
-- ==== Proof.WindowValues.lean ====
/- What the idealized kernel's windows hold: its blocks as rows of the whole arrays. -/
module

public import proofs.«01_k».proof.Proof.ValueRunA
public import proofs.«01_k».proof.Proof.ValueRunB
public import Idealize.ShloMosaic.Lib.Pipeline.DatRel
public import Idealize.ShloMosaic.Lib.Pipeline.ArrRel

@[expose] public section

set_option maxRecDepth 16384

noncomputable section

namespace Cert.KernelIdeal.Gen

open Idealize.ShloMosaic.TcCoe Idealize.ShloMosaic.ValueIdx Cert.Spec
open Idealize.ShloMosaic hiding ix1 ix2 ix3 ix4 eq_ix1 eq_ix2 eq_ix3 eq_ix4

variable (m : (ℓ : Loc nD τ sig) → Buf (Elt Ideal) ℓ)

/-- The rows of `x`, as the kernel finds them, -/
def XA (c : Dev nD) (r : Fin 16384) (k : Fin 4096) : EReal := V m c main_v0 (ix2 r k : S16384x4096.Idx)

/-- the rows of weights, -/
def WA (c : Dev nD) (r : Fin 11008) (k : Fin 4096) : EReal := V m c main_arg1 (ix2 r k : S11008x4096.Idx)

/-- and their rows of scales. -/
def SA (c : Dev nD) (r : Fin 86) (k : Fin 32) : EReal := V m c main_arg2 (ix2 r k : S86x32.Idx)

/-- Row `r` of the row block of point `t`. -/
def rowAt (t : ℕ) (r : Fin 1024) : Fin 16384 := ⟨(1024 * (t / 43) + r.val) % 16384, by omega⟩

/-- The column of point `t`. -/
def colAt (t : ℕ) : Fin 43 := ⟨t % 43, by omega⟩

theorem gcol_coords (t : Fin cfg0.N) : gcol (grid0.coords t) = colAt t.val := by
  refine Fin.ext ?_
  have e1 : (grid0.coords t 1).val = t.val / 1 % 43 := Pipeline.Grid.coords_val t 1 (by decide) rfl
  show (grid0.coords t 1).val = t.val % 43
  rw [e1, Nat.div_one]

theorem idx0 : ∀ t : Fin grid0.N, win0_0.index t = ![t.val / 43, 0] := by decide +kernel
theorem idx1 : ∀ t : Fin grid0.N, win0_1.index t = ![t.val % 43, 0] := by decide +kernel
theorem idx2 : ∀ t : Fin grid0.N, win0_2.index t = ![43 + t.val % 43, 0] := by decide +kernel
theorem idx3 : ∀ t : Fin grid0.N, win0_3.index t = ![0, 0] := by decide +kernel
theorem idx4 : ∀ t : Fin grid0.N, win0_4.index t = ![t.val / 43, t.val % 43] := by decide +kernel
theorem idx5 : ∀ t : Fin grid0.N, win0_5.index t = ![t.val / 43, 0] := by decide +kernel
theorem idx6 : ∀ t : Fin grid0.N, win0_6.index t = ![t.val / 43, 0] := by decide +kernel
theorem idx7 : ∀ t : Fin grid0.N, win0_7.index t = ![t.val / 43, 0] := by decide +kernel

theorem lt_points (t : Fin cfg0.N) : t.val < 688 := lt_of_lt_of_eq t.isLt (show cfg0.N = 688 from N_0)

/-- The block of `x` at a point is its row block, -/
theorem iblk0_apply (c : Dev nD) (t : Fin cfg0.N) (r : Fin 1024) (k : Fin 4096) :
    iblk m c 0 t (ix2 r k : S1024x4096.Idx) = XA m c (rowAt t.val r) k := by
  have ht := lt_points t
  unfold iblk XA rowAt
  rw [View.read_apply]
  blk_ext [idx0 t]
  all_goals first | (show t.val / 43 * 1024 + r.val = _; omega) | (show t.val % 43 * 128 + r.val = _; omega) | (show (43 + t.val % 43) * 128 + r.val = _; omega) | (show 0 * 86 + r.val = _; omega) | (show 0 * 4096 + k.val = k.val; omega) | (show 0 * 32 + k.val = k.val; omega)

/-- the blocks of weights the gate's rows of its column -/
theorem iblk1_apply (c : Dev nD) (t : Fin cfg0.N) (r : Fin 128) (k : Fin 4096) :
    iblk m c 1 t (ix2 r k : S128x4096.Idx) = WA m c ⟨128 * (colAt t.val).val + r.val, by omega⟩ k := by
  have ht := lt_points t
  unfold iblk WA colAt
  rw [View.read_apply]
  blk_ext [idx1 t]
  all_goals first | (show t.val / 43 * 1024 + r.val = _; omega) | (show t.val % 43 * 128 + r.val = _; omega) | (show (43 + t.val % 43) * 128 + r.val = _; omega) | (show 0 * 86 + r.val = _; omega) | (show 0 * 4096 + k.val = k.val; omega) | (show 0 * 32 + k.val = k.val; omega)

/-- and the up rows of its column, -/
theorem iblk2_apply (c : Dev nD) (t : Fin cfg0.N) (r : Fin 128) (k : Fin 4096) :
    iblk m c 2 t (ix2 r k : S128x4096.Idx) = WA m c ⟨5504 + 128 * (colAt t.val).val + r.val, by omega⟩ k := by
  have ht := lt_points t
  unfold iblk WA colAt
  rw [View.read_apply]
  blk_ext [idx2 t]
  all_goals first | (show t.val / 43 * 1024 + r.val = _; omega) | (show t.val % 43 * 128 + r.val = _; omega) | (show (43 + t.val % 43) * 128 + r.val = _; omega) | (show 0 * 86 + r.val = _; omega) | (show 0 * 4096 + k.val = k.val; omega) | (show 0 * 32 + k.val = k.val; omega)

/-- and the scales are all there. -/
theorem iblk3_apply (c : Dev nD) (t : Fin cfg0.N) (r : Fin 86) (k : Fin 32) :
    iblk m c 3 t (ix2 r k : S86x32.Idx) = SA m c r k := by
  unfold iblk SA
  rw [View.read_apply]
  blk_ext [idx3 t]
  all_goals first | (show t.val / 43 * 1024 + r.val = _; omega) | (show t.val % 43 * 128 + r.val = _; omega) | (show (43 + t.val % 43) * 128 + r.val = _; omega) | (show 0 * 86 + r.val = _; omega) | (show 0 * 4096 + k.val = k.val; omega) | (show 0 * 32 + k.val = k.val; omega)

/-- A row of the hidden block at a point is a group of a hidden row. -/
theorem hidden_row (c : Dev nD) (t : Fin cfg0.N) (xq : S1024x4096.Idx → EReal) (r : Fin 1024)
    (hxq : ∀ k, xq (ix2 r k) = xdeq (XA m c (rowAt t.val r)) k) :
    (fun k : Fin 128 => swiglu (∑ e : Fin 4096, xq (ix2 r e) * wblk (iblk m c 1 t) (iblk m c 2 t) (iblk m c 3 t) (colAt t.val) (ix2 ⟨k.val, by omega⟩ e))
        (∑ e : Fin 4096, xq (ix2 r e) * wblk (iblk m c 1 t) (iblk m c 2 t) (iblk m c 3 t) (colAt t.val) (ix2 ⟨128 + k.val, by omega⟩ e)))
      = hrow (XA m c) (WA m c) (SA m c) (rowAt t.val r) (colAt t.val) := by
  funext k
  unfold hrow dotRow
  refine congrArg₂ swiglu (Finset.sum_congr rfl fun e _ => congrArg₂ (· * ·) (hxq e) ?_) (Finset.sum_congr rfl fun e _ => congrArg₂ (· * ·) (hxq e) ?_)
  · unfold wblk
    rw [dif_pos (show ((ix2 (⟨k.val, by omega⟩ : Fin 256) e : S256x4096.Idx) 0).val < 128 from k.isLt)]
    unfold wdeq
    exact congrArg₂ (· * ·) (iblk1_apply m c t k e) (iblk3_apply m c t _ _)
  · unfold wblk
    rw [dif_neg (show ¬((ix2 (⟨128 + k.val, by omega⟩ : Fin 256) e : S256x4096.Idx) 0).val < 128 from by show ¬(128 + k.val < 128); omega)]
    unfold wdeq
    refine congrArg₂ (· * ·) ((congrArg (iblk m c 2 t) (congrArg (fun q => (ix2 q e : S128x4096.Idx)) (Fin.ext ?_))).trans (iblk2_apply m c t k e)) (iblk3_apply m c t _ _)
    show 128 + k.val - 128 = k.val
    omega

end Cert.KernelIdeal.Gen

end
-- ==== Proof.ValueFrame.lean ====
/- What the idealized kernel computes: its body at each grid point, over what the points before have left. -/
module

public import proofs.«01_k».proof.Proof.IdealFrame
public import proofs.«01_k».proof.Proof.WindowValues
public import Idealize.ShloMosaic.Lib.Claim

@[expose] public section

set_option maxRecDepth 16384

noncomputable section

namespace Cert.KernelIdeal.Gen

open Idealize.ShloMosaic.TcCoe Idealize.ShloMosaic.ValueIdx Idealize.ShloMosaic.Tactic Cert.Spec
open Idealize.ShloMosaic hiding ix1 ix2 ix3 ix4 eq_ix1 eq_ix2 eq_ix3 eq_ix4
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationRel cellOf)

local notation "𝕄" => MT nD τ sig Unit (Elt Ideal) ℕ (UR sig nD τ) ℕ

variable (m : (ℓ : Loc nD τ sig) → Buf (Elt Ideal) ℓ) (ρ : Dev nD → PrngReg)

/-! ## What each result's block holds after a point -/

/-- The hidden codes of point `t`'s block, -/
def isHcodes (c : Dev nD) (t : ℕ) (X : S1024x128.Idx → EReal) : Prop :=
  X = fun y => qcode (hrow (XA m c) (WA m c) (SA m c) (rowAt t (y 0)) (colAt t)) (y 1)

/-- the hidden scales of its row block, as far as the columns have been visited, -/
def isHscales (c : Dev nD) (t : ℕ) (X : S1024x43.Idx → EReal) : Prop :=
  ∀ y : S1024x43.Idx, (y 1).val ≤ t % 43 → X y = hscaleAt (XA m c) (WA m c) (SA m c) (rowAt t (y 0)) (y 1)

/-- the codes of its row block of `x`, -/
def isXcodes (c : Dev nD) (t : ℕ) (X : S1024x4096.Idx → EReal) : Prop := X = fun y => xcode (XA m c (rowAt t (y 0))) (y 1)

/-- and their scales. -/
def isXscales (c : Dev nD) (t : ℕ) (X : S1024x32.Idx → EReal) : Prop := X = fun y => xscale (XA m c (rowAt t (y 0))) (y 1)

/-- What holds of the results' blocks after point `t`. -/
def leftAt (c : Dev nD) : (w : Fin cfg0.W) → Fin cfg0.N → ((cfg0.win w).block.Idx → Elt Ideal (cfg0.win w).elt) → Prop
  | ⟨0, _⟩, _ => fun _ => True
  | ⟨1, _⟩, _ => fun _ => True
  | ⟨2, _⟩, _ => fun _ => True
  | ⟨3, _⟩, _ => fun _ => True
  | ⟨4, _⟩, t => isHcodes m c t.val
  | ⟨5, _⟩, t => isHscales m c t.val
  | ⟨6, _⟩, t => isXcodes m c t.val
  | ⟨7, _⟩, t => isXscales m c t.val

/-- Between the points the first scratch buffer holds the row block of `x` scaled back, except where a new row block begins. -/
def between (c : Dev nD) (t : ℕ) : sProp 𝕄 :=
  iprop((∃ d, ⌜t % 43 ≠ 0 → d = fun y : S1024x4096.Idx => xdeq (XA m c (rowAt t (y 0))) (y 1)⌝ ∗ owns (c : Thread nD τ) scM0_0 fullShare d)
    ∗ (∃ d, owns (c : Thread nD τ) scM0_1 fullShare d) ∗ (∃ r, prngReg c r))

/-- The proof data of the pipeline: the arrays as the region finds them, each input's buffer at its block, the results' buffers
    held to `leftAt`. -/
def vdat (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
  Φ t := between m c t.val
  q w := Pipeline.shareOf spec0 w
  owed _ := 0

theorem vA_eq (c : Dev nD) (w : Fin cfg0.W) : (vdat m c).A w = V m c (Pipeline.arrRef spec0 w) := by dsimp only [vdat]
theorem vafter0 (c : Dev nD) (t : Fin cfg0.N) : (vdat m c).after 0 t = iblk m c 0 t := by dsimp only [vdat]
theorem vafter1 (c : Dev nD) (t : Fin cfg0.N) : (vdat m c).after 1 t = iblk m c 1 t := by dsimp only [vdat]
theorem vafter2 (c : Dev nD) (t : Fin cfg0.N) : (vdat m c).after 2 t = iblk m c 2 t := by dsimp only [vdat]
theorem vafter3 (c : Dev nD) (t : Fin cfg0.N) : (vdat m c).after 3 t = iblk m c 3 t := by dsimp only [vdat]

theorem vbefore0 (c : Dev nD) (t : Fin cfg0.N) (d) : (vdat m c).before 0 t d = iblk m c 0 t :=
  before0_0_of m (vdat m c) (vA_eq m c 0) (vafter0 m c) t d
theorem vbefore1 (c : Dev nD) (t : Fin cfg0.N) (d) : (vdat m c).before 1 t d = iblk m c 1 t :=
  before0_1_of m (vdat m c) (vA_eq m c 1) (vafter1 m c) t d
theorem vbefore2 (c : Dev nD) (t : Fin cfg0.N) (d) : (vdat m c).before 2 t d = iblk m c 2 t :=
  before0_2_of m (vdat m c) (vA_eq m c 2) (vafter2 m c) t d
theorem vbefore3 (c : Dev nD) (t : Fin cfg0.N) (d) : (vdat m c).before 3 t d = iblk m c 3 t :=
  before0_3_of m (vdat m c) (vA_eq m c 3) (vafter3 m c) t d

/-! ## What a point leaves, of what it finds -/

theorem rowOf_iblk0 (c : Dev nD) (t : Fin cfg0.N) (r : Fin 1024) : rowOf (iblk m c 0 t : S1024x4096.Idx → EReal) r = XA m c (rowAt t.val r) :=
  funext fun k => iblk0_apply m c t r k

theorem codes_left (c : Dev nD) (t : Fin cfg0.N) : isXcodes m c t.val (codesOf (iblk m c 0 t)) :=
  funext fun y => congrArg (fun R => xcode R (y 1)) (rowOf_iblk0 m c t (y 0))

theorem scales_left (c : Dev nD) (t : Fin cfg0.N) : isXscales m c t.val (scalesOf (iblk m c 0 t)) :=
  funext fun y => congrArg (fun R => xscale R (y 1)) (rowOf_iblk0 m c t (y 0))

theorem deq_left (c : Dev nD) (t : Fin cfg0.N) :
    deqOf (iblk m c 0 t) = fun y : S1024x4096.Idx => xdeq (XA m c (rowAt t.val (y 0))) (y 1) :=
  funext fun y => congrArg (fun R => xdeq R (y 1)) (rowOf_iblk0 m c t (y 0))

theorem hcodes_left (c : Dev nD) (t : Fin cfg0.N) (xq : S1024x4096.Idx → EReal)
    (hxq : xq = fun y : S1024x4096.Idx => xdeq (XA m c (rowAt t.val (y 0))) (y 1)) :
    isHcodes m c t.val (hcodesOf xq (wblk (iblk m c 1 t) (iblk m c 2 t) (iblk m c 3 t) (gcol (grid0.coords t)))) := by
  rw [gcol_coords]
  exact funext fun y => congrArg (fun R => qcode R (y 1)) (hidden_row m c t xq (y 0) fun k => by rw [hxq])

theorem hscales_left (c : Dev nD) (t : Fin cfg0.N) (xq : S1024x4096.Idx → EReal)
    (hxq : xq = fun y : S1024x4096.Idx => xdeq (XA m c (rowAt t.val (y 0))) (y 1)) (old : S1024x43.Idx → EReal)
    (hold : t.val % 43 ≠ 0 → isHscales m c (t.val - 1) old) :
    isHscales m c t.val (hscalesOf xq (wblk (iblk m c 1 t) (iblk m c 2 t) (iblk m c 3 t) (gcol (grid0.coords t))) (gcol (grid0.coords t)).val old) := by
  rw [gcol_coords]
  intro y hy
  unfold hscalesOf
  by_cases h : (y 1).val = (colAt t.val).val
  · rw [if_pos h]
    unfold hscaleAt
    rw [show (y 1 : Fin 43) = colAt t.val from Fin.ext h]
    exact congrArg qscale (hidden_row m c t xq (y 0) fun k => by rw [hxq])
  · rw [if_neg h]
    have hv : (colAt t.val).val = t.val % 43 := rfl
    rw [hv] at h
    have h0 : t.val % 43 ≠ 0 := fun h0 => h (by omega)
    have e := hold h0 y (by omega)
    rw [show rowAt (t.val - 1) (y 0) = rowAt t.val (y 0) from Fin.ext (by unfold rowAt; show (1024 * ((t.val - 1) / 43) + _) % 16384 = (1024 * (t.val / 43) + _) % 16384; rw [show (t.val - 1) / 43 = t.val / 43 from by omega])] at e
    exact e

theorem rowAt_pred (t : ℕ) (h : t % 43 ≠ 0) : rowAt (t - 1) = rowAt t := by
  funext r
  unfold rowAt
  exact Fin.ext (by show (1024 * ((t - 1) / 43) + _) % 16384 = (1024 * (t / 43) + _) % 16384; rw [show (t - 1) / 43 = t / 43 from by omega])

/-- What a point within a row block finds in a result's buffer is what the point before left. -/
theorem finds_left (c : Dev nD) (t : Fin cfg0.N) (h0 : t.val % 43 ≠ 0) (w : Fin cfg0.W) (hw : forgets0 w = true)
    (hf : (cfg0.win w).fetch t = false) (hfl : (cfg0.win w).flush ⟨t.val - 1, Nat.lt_of_le_of_lt (Nat.sub_le _ _) t.isLt⟩ ≠ true) (X)
    (h : ((vdat m c).toRRel forgets0 (leftAt m c)).Finds w t X) : leftAt m c w ⟨t.val - 1, Nat.lt_of_le_of_lt (Nat.sub_le _ _) t.isLt⟩ X :=
  (vdat m c).toRRel_leaves hw (((Pipeline.RDat.finds_of_pos _ hf (fun e => h0 (by rw [e])) X).mp h).resolve_left hfl)

theorem fetch5 (t : Fin cfg0.N) : (cfg0.win 5).fetch t = false := rfl
theorem fetch6 (t : Fin cfg0.N) : (cfg0.win 6).fetch t = false := rfl
theorem fetch7 (t : Fin cfg0.N) : (cfg0.win 7).fetch t = false := rfl

/-! ## The body obligation, at a generic point -/

/-- What the body is called with at point `t`, -/
def vbodyPre (c : Dev nD) (t : Fin cfg0.N) : sProp 𝕄 :=
  iprop((vdat m c).Φ t.castSucc ∗ (vdat m c).owesAt () t.castSucc
    ∗ (∃ d, owns (c : Thread nD τ) (ms0_0 t) fullShare ((vdat m c).before 0 t d))
    ∗ (∃ d, owns (c : Thread nD τ) (ms0_1 t) fullShare ((vdat m c).before 1 t d))
    ∗ (∃ d, owns (c : Thread nD τ) (ms0_2 t) fullShare ((vdat m c).before 2 t d))
    ∗ (∃ d, owns (c : Thread nD τ) (ms0_3 t) fullShare ((vdat m c).before 3 t d))
    ∗ (∃ d, ⌜((vdat m c).toRRel forgets0 (leftAt m c)).Finds 4 t d⌝ ∗ owns (c : Thread nD τ) (ms0_4 t) fullShare d)
    ∗ (∃ d, ⌜((vdat m c).toRRel forgets0 (leftAt m c)).Finds 5 t d⌝ ∗ owns (c : Thread nD τ) (ms0_5 t) fullShare d)
    ∗ (∃ d, ⌜((vdat m c).toRRel forgets0 (leftAt m c)).Finds 6 t d⌝ ∗ owns (c : Thread nD τ) (ms0_6 t) fullShare d)
    ∗ (∃ d, ⌜((vdat m c).toRRel forgets0 (leftAt m c)).Finds 7 t d⌝ ∗ owns (c : Thread nD τ) (ms0_7 t) fullShare d))

/-- and what it returns. -/
def vbodyPost (c : Dev nD) (t : Fin cfg0.N) : sProp 𝕄 :=
  iprop((vdat m c).Φ t.succ ∗ (vdat m c).owesAt () t.succ
    ∗ (vdat m c).leavesExact 0 t
    ∗ (vdat m c).leavesExact 1 t
    ∗ (vdat m c).leavesExact 2 t
    ∗ (vdat m c).leavesExact 3 t
    ∗ (∃ d, ⌜isHcodes m c t.val d⌝ ∗ owns (c : Thread nD τ) (ms0_4 t) fullShare d)
    ∗ (∃ d, ⌜isHscales m c t.val d⌝ ∗ owns (c : Thread nD τ) (ms0_5 t) fullShare d)
    ∗ (∃ d, ⌜isXcodes m c t.val d⌝ ∗ owns (c : Thread nD τ) (ms0_6 t) fullShare d)
    ∗ (∃ d, ⌜isXscales m c t.val d⌝ ∗ owns (c : Thread nD τ) (ms0_7 t) fullShare d))

/-- After a point the scratch holds its row block of `x` scaled back, whether or not a new row block begins at the next. -/
theorem between_succ (t : ℕ) (c : Dev nD) :
    (fun y : S1024x4096.Idx => xdeq (XA m c (rowAt t (y 0))) (y 1)) = (fun y : S1024x4096.Idx => xdeq (XA m c (rowAt (t + 1) (y 0))) (y 1)) ∨ (t + 1) % 43 = 0 := by
  by_cases h : (t + 1) % 43 = 0
  · exact .inr h
  · left
    have e := rowAt_pred (t + 1) h
    rw [Nat.add_sub_cancel] at e
    rw [e]

set_option maxHeartbeats 1600000 in
/-- The body at any point: where a row block begins it quantises the block and goes on with what it wrote; elsewhere it goes on with
    what the point before left. -/
theorem vsound_body (c : Dev nD) (t : Fin cfg0.N) :
    vbodyPre m c t ⊢ wp Idealize.ShloMosaic.frame (wpE (defs₀ (F := Ideal)) Variants.none c none) Set.univ (bodyAt0 t) (fun _ => vbodyPost m c t) := by
  unfold vbodyPre vbodyPost bodyAt0
  simp only [vbefore0, vbefore1, vbefore2, vbefore3]
  rw [show (vdat m c).Φ t.succ = between m c (t.val + 1) from rfl,
    show (vdat m c).owesAt () t.succ = (vdat m c).owesAt () t.castSucc from rfl]
  rw [show (vdat m c).Φ t.castSucc = between m c t.val from rfl]
  have hN : t.val < 688 := lt_points t
  rw [show (vdat m c).leavesExact 0 t = owns (c : Thread nD τ) (ms0_0 t) fullShare ((vdat m c).after 0 t) from by
    unfold Dat.leavesExact; rw [liveAt0_0 t], vafter0]
  rw [show (vdat m c).leavesExact 1 t = owns (c : Thread nD τ) (ms0_1 t) fullShare ((vdat m c).after 1 t) from by
    unfold Dat.leavesExact; rw [liveAt0_1 t], vafter1]
  rw [show (vdat m c).leavesExact 2 t = owns (c : Thread nD τ) (ms0_2 t) fullShare ((vdat m c).after 2 t) from by
    unfold Dat.leavesExact; rw [liveAt0_2 t], vafter2]
  rw [show (vdat m c).leavesExact 3 t = owns (c : Thread nD τ) (ms0_3 t) fullShare ((vdat m c).after 3 t) from by
    unfold Dat.leavesExact; rw [liveAt0_3 t], vafter3]
  have hnext := between_succ m t.val c
  unfold between
  by_cases h0 : t.val % 43 = 0
  · iintro ⟨⟨⟨%xq, %hxq, HS0⟩, HS1, Hg⟩, Ho, ⟨%d0, H0⟩, ⟨%d1, H1⟩, ⟨%d2, H2⟩, ⟨%d3, H3⟩, ⟨%d4, %h4, H4⟩, ⟨%d5, %h5, H5⟩, ⟨%d6, %h6, H6⟩, ⟨%d7, %h7, H7⟩⟩
    iapply ((valueRun0_A c (grid0.coords t) _ _ _ _ _ _ _ _ _ _ _ _ _ _ _ _ _ _ _ _ ((hcond0_0 t).mpr h0) (iblk m c 0 t) (iblk m c 1 t) (iblk m c 2 t) (iblk m c 3 t) d5) Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexists _; iexact H6
    isplitl [H7]; · iexists _; iexact H7
    isplitl [HS0]; · iexists _; iexact HS0
    isplitl [HS1]; · iexact HS1
    iintro ⟨H0, H1, H2, H3, H4, H5, H6, H7, HS0, HS1⟩
    isplitl [HS0 HS1 Hg]
    · isplitl [HS0]
      · iexists _
        isplitr
        · ipureintro
          exact fun hn => (deq_left m c t).trans (hnext.resolve_right hn)
        · iexact HS0
      isplitl [HS1]
      · iexact HS1
      iexact Hg
    isplitl [Ho]; · iexact Ho
    isplitl [H0]; · iexact H0
    isplitl [H1]; · iexact H1
    isplitl [H2]; · iexact H2
    isplitl [H3]; · iexact H3
    isplitl [H4]
    · iexists _
      isplitr
      · ipureintro; exact hcodes_left m c t _ (deq_left m c t)
      · iexact H4
    isplitl [H5]
    · iexists _
      isplitr
      · ipureintro; exact hscales_left m c t _ (deq_left m c t) d5 fun h => absurd h0 h
      · iexact H5
    isplitl [H6]
    · iexists _
      isplitr
      · ipureintro; exact codes_left m c t
      · iexact H6
    iexists _
    isplitr
    · ipureintro; exact scales_left m c t
    · iexact H7
  · have hlast : (t.val - 1) % 43 ≠ 42 := by omega
    iintro ⟨⟨⟨%xq, %hxq, HS0⟩, HS1, Hg⟩, Ho, ⟨%d0, H0⟩, ⟨%d1, H1⟩, ⟨%d2, H2⟩, ⟨%d3, H3⟩, ⟨%d4, %h4, H4⟩, ⟨%d5, %h5, H5⟩, ⟨%d6, %h6, H6⟩, ⟨%d7, %h7, H7⟩⟩
    have e5 : isHscales m c (t.val - 1) d5 := finds_left m c t h0 5 rfl (fetch5 t) (fun h => hlast ((flush0_5 _).mp h)) d5 h5
    have e6 : isXcodes m c (t.val - 1) d6 := finds_left m c t h0 6 rfl (fetch6 t) (fun h => hlast ((flush0_6 _).mp h)) d6 h6
    have e7 : isXscales m c (t.val - 1) d7 := finds_left m c t h0 7 rfl (fetch7 t) (fun h => hlast ((flush0_7 _).mp h)) d7 h7
    unfold isXcodes at e6
    unfold isXscales at e7
    rw [rowAt_pred t.val h0] at e6 e7
    iapply ((valueRun0_B c (grid0.coords t) _ _ _ _ _ _ _ _ _ _ _ _ _ _ _ _ _ _ _ _ (fun h => h0 ((hcond0_0 t).mp h)) (iblk m c 0 t) (iblk m c 1 t) (iblk m c 2 t) (iblk m c 3 t) d5 d6 d7 xq) Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [H7]; · iexact H7
    isplitl [HS0]; · iexact HS0
    isplitl [HS1]; · iexact HS1
    iintro ⟨H0, H1, H2, H3, H4, H5, H6, H7, HS0, HS1⟩
    isplitl [HS0 HS1 Hg]
    · isplitl [HS0]
      · iexists _
        isplitr
        · ipureintro
          exact fun hn => (hxq h0).trans (hnext.resolve_right hn)
        · iexact HS0
      isplitl [HS1]
      · iexact HS1
      iexact Hg
    isplitl [Ho]; · iexact Ho
    isplitl [H0]; · iexact H0
    isplitl [H1]; · iexact H1
    isplitl [H2]; · iexact H2
    isplitl [H3]; · iexact H3
    isplitl [H4]
    · iexists _
      isplitr
      · ipureintro; exact hcodes_left m c t _ (hxq h0)
      · iexact H4
    isplitl [H5]
    · iexists _
      isplitr
      · ipureintro; exact hscales_left m c t _ (hxq h0) d5 fun _ => e5
      · iexact H5
    isplitl [H6]
    · iexists _
      isplitr
      · ipureintro; exact e6
      · iexact H6
    iexists _
    isplitr
    · ipureintro; exact e7
    · iexact H7

/-- The library's body obligation, at every point. -/
theorem vbody_obligation (c : Dev nD) : BodyObligationRel (vdat m c) (defs₀ (F := Ideal)) Variants.none () Set.univ forgets0 (leftAt m c) := fun t => by
  rw [bigSep_W0, bigSep_W0, defs₀_row]
  exact triple_restated (vsound_body m c t) rfl .rfl fun _ => .rfl

/-- The class's invariant begins what the body keeps between its points, -/
theorem between_in (c : Dev nD) : Pipeline.ΦA spec0 c ⊢ (vdat m c).Φ 0 := by
  rw [show (vdat m c).Φ 0 = between m c 0 from rfl, PhiA0_eq]
  unfold between
  iintro ⟨⟨⟨%d, HS0⟩, HS1⟩, Hg⟩
  isplitl [HS0]
  · iexists d
    isplitr
    · ipureintro; exact fun h => absurd rfl h
    · iexact HS0
  isplitl [HS1]
  · iexact HS1
  iexact Hg

/-- and is what it ends with. -/
theorem between_out (c : Dev nD) : (vdat m c).Φ (Fin.last cfg0.N) ⊢ Pipeline.ΦA spec0 c := by
  rw [show (vdat m c).Φ (Fin.last cfg0.N) = between m c (Fin.last cfg0.N).val from rfl, PhiA0_eq]
  unfold between
  iintro ⟨⟨%d, %h, HS0⟩, HS1, Hg⟩
  isplitl [HS0 HS1]
  · isplitl [HS0]
    · iexists d; iexact HS0
    iexact HS1
  iexact Hg

set_option backward.isDefEq.respectTransparency.types false in
/-- The run: every array holds at the end what its blocks' write-backs make of it, each block as `leftAt` has it. -/
theorem vrun_main : θ_run defs (onTc (τ := τ) (main (F := Ideal))) (s₀ m ρ)
    (Pipeline.RDat.FramePost (cfgs 0) (fun c => (vdat m c).toRRel forgets0 (leftAt m c)) (V m)) :=
  Pipeline.RDat.θ_run_frame_track_shared cfgs (0 : Fin 1) launch₀0 defs₀ Variants.none (fun c => (vdat m c).toRRel forgets0 (leftAt m c)) m ρ main
    (hbody := fun c => (vbody_obligation m c).toRRel) (hq := fun _ _ _ => rfl)
    (howed := fun _ _ => rfl) (V := V m) (hmain := hmain m Variants.none) (hA := vA_eq m) (hin := between_in m) (hout := between_out m)

end Cert.KernelIdeal.Gen

end
-- ==== Proof.KernelValue.lean ====
/- The four results of the idealized kernel, as whole arrays. -/
module

public import proofs.«01_k».proof.Proof.ValueFrame

@[expose] public section

set_option maxRecDepth 16384

noncomputable section

namespace Cert.KernelIdeal.Gen

open Idealize.ShloMosaic.TcCoe Idealize.ShloMosaic.ValueIdx Cert.Spec
open Idealize.ShloMosaic hiding ix1 ix2 ix3 ix4 eq_ix1 eq_ix2 eq_ix3 eq_ix4
open Idealize.SL Idealize.SL.RA Idealize.SL.Sem
open Idealize.ShloMosaic.Pipeline (Dat)

variable (m : (ℓ : Loc nD τ sig) → Buf (Elt Ideal) ℓ) (ρ : Dev nD → PrngReg) (c : Dev nD)
  (D : Dat τ (Elt Ideal) Unit ℕ (UR sig nD τ) ℕ cfg0 c)

/-- The array of hidden codes, from what its blocks hold where they are written back, -/
theorem hcodes_array (h : ∀ t : Fin cfg0.N, (cfg0.win 4).flush t = true → isHcodes m c t.val (D.after 4 t)) :
    D.arrAt 4 cfg0.N = fun y : S16384x5504.Idx => hcodeAt (XA m c) (WA m c) (SA m c) (y 0) (y 1) := by
  refine D.arrAt_eq_of_covers 4 _ (by decide +kernel) fun t hf y => ?_
  blk_simp
  rw [show D.after 4 t = _ from h t hf]
  have ht := lt_points t
  have hy0 : (y 0).val < 1024 := (y 0).isLt
  have hy1 : (y 1).val < 128 := (y 1).isLt
  have e0 : (((cfg0.win 4).blk t).view.emb y 0).val = t.val / 43 * 1024 + (y 0).val := by blk_simp [idx4 t]
  have e1 : (((cfg0.win 4).blk t).view.emb y 1).val = t.val % 43 * 128 + (y 1).val := by blk_simp [idx4 t]
  unfold hcodeAt
  refine congr (congrArg qcode (congr (congrArg _ (Fin.ext ?_)) (Fin.ext ?_))) (Fin.ext ?_)
  · exact (by omega : (1024 * (t.val / 43) + (y 0).val) % 16384 = t.val / 43 * 1024 + (y 0).val).trans e0.symm
  · exact (by omega : t.val % 43 = (t.val % 43 * 128 + (y 1).val) / 128).trans (congrArg (· / 128) e1.symm)
  · exact (by omega : (y 1).val = (t.val % 43 * 128 + (y 1).val) % 128).trans (congrArg (· % 128) e1.symm)

/-- the array of hidden scales, -/
theorem hscales_array (h : ∀ t : Fin cfg0.N, (cfg0.win 5).flush t = true → isHscales m c t.val (D.after 5 t)) :
    D.arrAt 5 cfg0.N = fun y : S16384x43.Idx => hscaleAt (XA m c) (WA m c) (SA m c) (y 0) (y 1) := by
  refine D.arrAt_eq_of_covers 5 _ (by decide +kernel) fun t hf y => ?_
  blk_simp
  have ht := lt_points t
  have hy0 : (y 0).val < 1024 := (y 0).isLt
  have hy1 : (y 1).val < 43 := (y 1).isLt
  have hl := (flush0_5 t).mp hf
  have e0 : (((cfg0.win 5).blk t).view.emb y 0).val = t.val / 43 * 1024 + (y 0).val := by blk_simp [idx5 t]
  have e1 : (((cfg0.win 5).blk t).view.emb y 1).val = (y 1).val := by blk_simp [idx5 t]
  refine (h t hf y (by omega)).trans (congr (congrArg _ (Fin.ext ?_)) (Fin.ext ?_))
  · exact (by omega : (1024 * (t.val / 43) + (y 0).val) % 16384 = t.val / 43 * 1024 + (y 0).val).trans e0.symm
  · exact e1.symm

/-- the array of codes of `x`, -/
theorem xcodes_array (h : ∀ t : Fin cfg0.N, (cfg0.win 6).flush t = true → isXcodes m c t.val (D.after 6 t)) :
    D.arrAt 6 cfg0.N = fun y : S16384x4096.Idx => xcode (XA m c (y 0)) (y 1) := by
  refine D.arrAt_eq_of_covers 6 _ (by decide +kernel) fun t hf y => ?_
  blk_simp
  rw [show D.after 6 t = _ from h t hf]
  have ht := lt_points t
  have hy0 : (y 0).val < 1024 := (y 0).isLt
  have e0 : (((cfg0.win 6).blk t).view.emb y 0).val = t.val / 43 * 1024 + (y 0).val := by blk_simp [idx6 t]
  have e1 : (((cfg0.win 6).blk t).view.emb y 1).val = (y 1).val := by blk_simp [idx6 t]
  refine congr (congrArg xcode (congrArg _ (Fin.ext ?_))) (Fin.ext ?_)
  · exact (by omega : (1024 * (t.val / 43) + (y 0).val) % 16384 = t.val / 43 * 1024 + (y 0).val).trans e0.symm
  · exact e1.symm

/-- and the array of its scales. -/
theorem xscales_array (h : ∀ t : Fin cfg0.N, (cfg0.win 7).flush t = true → isXscales m c t.val (D.after 7 t)) :
    D.arrAt 7 cfg0.N = fun y : S16384x32.Idx => xscale (XA m c (y 0)) (y 1) := by
  refine D.arrAt_eq_of_covers 7 _ (by decide +kernel) fun t hf y => ?_
  blk_simp
  rw [show D.after 7 t = _ from h t hf]
  have ht := lt_points t
  have hy0 : (y 0).val < 1024 := (y 0).isLt
  have e0 : (((cfg0.win 7).blk t).view.emb y 0).val = t.val / 43 * 1024 + (y 0).val := by blk_simp [idx7 t]
  have e1 : (((cfg0.win 7).blk t).view.emb y 1).val = (y 1).val := by blk_simp [idx7 t]
  refine congr (congrArg xscale (congrArg _ (Fin.ext ?_))) (Fin.ext ?_)
  · exact (by omega : (1024 * (t.val / 43) + (y 0).val) % 16384 = t.val / 43 * 1024 + (y 0).val).trans e0.symm
  · exact e1.symm

/-- The idealized kernel's run: its four results, and its arguments as they were. -/
theorem run_values : θ_run defs (onTc (τ := τ) (main (F := Ideal))) ⟨m, fun _ => 0, ρ⟩ (fun r => ∀ c : Dev nD,
      (r.2.mem ((c.tc : Thread nD τ).loc main_v1_0) = fun y : S16384x5504.Idx => hcodeAt (XA m c) (WA m c) (SA m c) (y 0) (y 1))
      ∧ (r.2.mem ((c.tc : Thread nD τ).loc main_v1_1) = fun y : S16384x43.Idx => hscaleAt (XA m c) (WA m c) (SA m c) (y 0) (y 1))
      ∧ (r.2.mem ((c.tc : Thread nD τ).loc main_v1_2) = fun y : S16384x4096.Idx => xcode (XA m c (y 0)) (y 1))
      ∧ (r.2.mem ((c.tc : Thread nD τ).loc main_v1_3) = fun y : S16384x32.Idx => xscale (XA m c (y 0)) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r hr c => by
    obtain ⟨after, hL, hA⟩ := Pipeline.RDat.FramePost.exists_exact hr c
    exact ⟨(hA 4).trans (hcodes_array m c _ fun t hf => (vdat m c).toRRel_leaves rfl (hL 4 t hf)),
      (hA 5).trans (hscales_array m c _ fun t hf => (vdat m c).toRRel_leaves rfl (hL 5 t hf)),
      (hA 6).trans (xcodes_array m c _ fun t hf => (vdat m c).toRRel_leaves rfl (hL 6 t hf)),
      (hA 7).trans (xscales_array m c _ fun t hf => (vdat m c).toRRel_leaves rfl (hL 7 t hf)),
      ((hr c).2 main_arg0 (Pipeline.mem_restRefs_of main_arg0 (by decide) (by decide))).trans (V_main_arg0 m c),
      (Pipeline.RDat.FramePost.arr_in hr c 2 rfl).trans ((vA_eq m c 2).trans (V_main_arg1 m c)),
      (Pipeline.RDat.FramePost.arr_in hr c 3 rfl).trans ((vA_eq m c 3).trans (V_main_arg2 m c))⟩) (vrun_main m ρ)

end Cert.KernelIdeal.Gen

end
-- ==== Proof.RefQuant.lean ====
/-
The reference's quantiser over an array of rows in groups of 128: each group's bound, its exponent, the scale two to
that exponent and the codes, read at an index.
-/
module

public import proofs.«01_k».proof.Proof.Blocks

@[expose] public section

set_option maxRecDepth 16384

noncomputable section

namespace Cert.Spec

open Idealize.ShloMosaic Idealize.ShloMosaic.ValueIdx

variable {n g : ℕ}

/-- Inserting a coordinate on the last of three axes. -/
theorem lift_three {l : ℕ} (h : (⟨3, ![n, g, l]⟩ : Shape).Reduces [2] ⟨2, ![n, g]⟩) (r : Fin n) (j : Fin g) (k : Fin l) :
    h.lift (ix2 r j) k = ix3 r j k := by
  funext a
  apply Fin.ext
  match a with
  | ⟨0, _⟩ => rfl
  | ⟨1, _⟩ => rfl
  | ⟨2, _⟩ => rfl

/-- A group's maximum, -/
theorem groupMax_apply {l : ℕ} (h : (⟨3, ![n, g, l]⟩ : Shape).Reduces [2] ⟨2, ![n, g]⟩) (x : FVec Ideal ⟨3, ![n, g, l]⟩ .f32)
    (acc : BitVec 32) (hφ : FKind.Formats .f32) (hacc : acc = FKind.maximumf.neutral .f32 hφ) (r : Fin n) (j : Fin g) :
    multiReduction .maximumf [2] ⟨2, ![n, g]⟩ x acc h hφ hacc (ix2 r j)
      = (Finset.univ : Finset (Fin l)).fold max (Ideal.ofBits .f32 acc) (fun k => x (ix3 r j k)) :=
  (Ideal.multiReduction_maximumf_single x acc h hφ hacc (ix2 r j)).trans
    (congrArg (fun f => (Finset.univ : Finset (Fin l)).fold max (Ideal.ofBits .f32 acc) f)
      (funext fun k => congrArg x (lift_three h r j k)))

/-- and its minimum. -/
theorem groupMin_apply {l : ℕ} (h : (⟨3, ![n, g, l]⟩ : Shape).Reduces [2] ⟨2, ![n, g]⟩) (x : FVec Ideal ⟨3, ![n, g, l]⟩ .f32)
    (acc : BitVec 32) (hφ : FKind.Formats .f32) (hacc : acc = FKind.minimumf.neutral .f32 hφ) (r : Fin n) (j : Fin g) :
    multiReduction .minimumf [2] ⟨2, ![n, g]⟩ x acc h hφ hacc (ix2 r j)
      = (Finset.univ : Finset (Fin l)).fold min (Ideal.ofBits .f32 acc) (fun k => x (ix3 r j k)) :=
  ((multiReduction_minimumf_eq_fold x acc h hφ hacc (ix2 r j)).trans (h.fold_filter_drop_single _ _ x (ix2 r j))).trans
    (congrArg (fun f => (Finset.univ : Finset (Fin l)).fold min (Ideal.ofBits .f32 acc) f)
      (funext fun k => congrArg x (lift_three h r j k)))

/-- A value per group as a last axis of one, -/
theorem column_apply {α : Type} (x : (⟨2, ![n, g]⟩ : Shape).Idx → α) (h : (⟨2, ![n, g]⟩ : Shape).ShapeCasts ⟨3, ![n, g, 1]⟩)
    (r : Fin n) (j : Fin g) (u : Fin 1) : shapeCast ⟨3, ![n, g, 1]⟩ x h (ix3 r j u) = x (ix2 r j) :=
  shapeCast_apply x h (ix3 r j u) (ix2 r j) (by
    have := u.isLt
    rw [Shape.rowMajor_val_three, Shape.rowMajor_val_two]
    show r.val * g + j.val = (r.val * g + j.val) * 1 + u.val
    omega)

/-- spread over that axis. -/
theorem spread3_apply {α : Type} {l : ℕ} (x : (⟨3, ![n, g, 1]⟩ : Shape).Idx → α) (h : (⟨3, ![n, g, 1]⟩ : Shape).Broadcasts ⟨3, ![n, g, l]⟩)
    (r : Fin n) (j : Fin g) (k : Fin l) : broadcastTo ⟨3, ![n, g, l]⟩ x h (ix3 r j k) = x (ix3 r j 0) := by
  apply broadcastTo_apply
  intro a
  match a with
  | ⟨0, _⟩ =>
    show r.val = if n = 1 then 0 else r.val
    split
    · have := r.isLt; omega
    · rfl
  | ⟨1, _⟩ =>
    show j.val = if g = 1 then 0 else j.val
    split
    · have := j.isLt; omega
    · rfl
  | ⟨2, _⟩ => rfl

theorem exp2_at {s : Shape} (x : FVec Ideal s .f32) (i : s.Idx) : exp2 x i = Ideal.exp2 (x i) := rfl

section

variable (hr : (⟨3, ![n, g, 128]⟩ : Shape).Reduces [2] ⟨2, ![n, g]⟩) (hi : (⟨3, ![n, g, 246]⟩ : Shape).Iotas .tc 32 [2])
  (hc : (⟨2, ![n, g]⟩ : Shape).ShapeCasts ⟨3, ![n, g, 1]⟩) (hb : (⟨3, ![n, g, 1]⟩ : Shape).Broadcasts ⟨3, ![n, g, 246]⟩)
  (hq : (⟨3, ![n, g, 246]⟩ : Shape).Reduces [2] ⟨2, ![n, g]⟩) (hs : (⟨3, ![n, g, 1]⟩ : Shape).Broadcasts ⟨3, ![n, g, 128]⟩)

/-- Each group's bound. -/
def refBound (v : FVec Ideal ⟨3, ![n, g, 128]⟩ .f32) : FVec Ideal ⟨2, ![n, g]⟩ .f32 :=
  mulf (multiReduction .maximumf [2] ⟨2, ![n, g]⟩ (absf v) 0xFF800000#32 hr (.inl rfl) rfl)
    (broadcast ⟨2, ![n, g]⟩ (Scalar.ofBits .f32 0x3B124925#32))

theorem refBound_apply (v : FVec Ideal ⟨3, ![n, g, 128]⟩ .f32) (r : Fin n) (j : Fin g) :
    refBound hr v (ix2 r j) = bound fun k => v (ix3 r j k) :=
  congrArg (fun z => z * Ideal.ofBits .f32 0x3B124925#32) (groupMax_apply hr (absf v) 0xFF800000#32 (.inl rfl) rfl r j)

/-- The candidate exponents, group after group. -/
def refCand : FVec Ideal ⟨3, ![n, g, 246]⟩ .f32 :=
  subf (sitofp .f32 (iota .tc ⟨3, ![n, g, 246]⟩ 32 [2] hi)) (broadcast ⟨3, ![n, g, 246]⟩ (Scalar.ofBits .f32 0x42FA0000#32))

theorem refCand_apply (r : Fin n) (j : Fin g) (k : Fin 246) : refCand hi (ix3 r j k) = rcand k.val := by
  show FloatOps.sitofp (F := Ideal) .f32 (iota .tc ⟨3, ![n, g, 246]⟩ 32 [2] hi (ix3 r j k)) - Ideal.ofBits .f32 0x42FA0000#32 = _
  rw [iota_single_apply]; rfl

/-- The candidates whose power of two exceeds the group's bound, the others the largest exponent. -/
def refKept (t : FVec Ideal ⟨2, ![n, g]⟩ .f32) : FVec Ideal ⟨3, ![n, g, 246]⟩ .f32 :=
  select (cmpf .olt (broadcastTo ⟨3, ![n, g, 246]⟩ (shapeCast ⟨3, ![n, g, 1]⟩ t hc) hb) (exp2 (refCand hi))) (refCand hi)
    (broadcast ⟨3, ![n, g, 246]⟩ (Scalar.ofBits .f32 0x42F00000#32))

theorem refKept_apply (t : FVec Ideal ⟨2, ![n, g]⟩ .f32) (r : Fin n) (j : Fin g) (k : Fin 246) :
    refKept hi hc hb t (ix3 r j k)
      = Scalar.select (Ideal.cmp .olt (t (ix2 r j)) (Ideal.exp2 (rcand k.val))) (rcand k.val) (Ideal.ofBits .f32 0x42F00000#32) := by
  unfold refKept
  rw [select_at, cmpf_olt_at, exp2_at, refCand_apply, spread3_apply, column_apply]
  exact congrArg (Scalar.select _ _) (broadcast_at _ _ _)

/-- Each group's exponent. -/
def refExp (t : FVec Ideal ⟨2, ![n, g]⟩ .f32) : FVec Ideal ⟨2, ![n, g]⟩ .f32 :=
  select (cmpf .olt t (broadcast ⟨2, ![n, g]⟩ (Scalar.ofBits .f32 0x00800000#32)))
    (broadcast ⟨2, ![n, g]⟩ (Scalar.ofBits .f32 0x00000000#32))
    (multiReduction .minimumf [2] ⟨2, ![n, g]⟩ (refKept hi hc hb t) 0x7F800000#32 hq (.inl rfl) rfl)

theorem refExp_apply (t : FVec Ideal ⟨2, ![n, g]⟩ .f32) (r : Fin n) (j : Fin g) :
    refExp hi hc hb hq t (ix2 r j) = rexp (t (ix2 r j)) := by
  unfold refExp
  rw [select_at, cmpf_olt_at, broadcast_at, broadcast_at]
  refine (congrArg (Scalar.select _ _) (groupMin_apply hq (refKept hi hc hb t) 0x7F800000#32 (.inl rfl) rfl r j)).trans ?_
  have e : (fun k : Fin 246 => refKept hi hc hb t (ix3 r j k)) = fun k => Scalar.select (Ideal.cmp .olt (t (ix2 r j)) (Ideal.exp2 (rcand k.val))) (rcand k.val) (Ideal.ofBits .f32 0x42F00000#32) :=
    funext fun k => refKept_apply hi hc hb t r j k
  rw [e]
  unfold rexp
  exact Eq.refl _

/-- Each group's exponent, of the array. -/
def refE (v : FVec Ideal ⟨3, ![n, g, 128]⟩ .f32) : FVec Ideal ⟨2, ![n, g]⟩ .f32 := refExp hi hc hb hq (refBound hr v)

/-- Each group's scale: the one the kernel's words give. -/
theorem refScale_apply (v : FVec Ideal ⟨3, ![n, g, 128]⟩ .f32) (r : Fin n) (j : Fin g) :
    exp2 (refE hr hi hc hb hq v) (ix2 r j) = qscale fun k => v (ix3 r j k) := by
  unfold refE
  rw [exp2_at, refExp_apply, refBound_apply]
  exact (kscale_eq_rscale _ (bound_nonneg _)).symm

/-- The groups' codes. -/
def refCode (v : FVec Ideal ⟨3, ![n, g, 128]⟩ .f32) (e : FVec Ideal ⟨2, ![n, g]⟩ .f32) : FVec Ideal ⟨3, ![n, g, 128]⟩ .f32 :=
  minimumf (broadcast ⟨3, ![n, g, 128]⟩ (Scalar.ofBits .f32 0x43E00000#32))
    (maximumf (broadcast ⟨3, ![n, g, 128]⟩ (Scalar.ofBits .f32 0xC3E00000#32))
      (mulf v (broadcastTo ⟨3, ![n, g, 128]⟩
        (shapeCast ⟨3, ![n, g, 1]⟩ (exp2 (subf (broadcast ⟨2, ![n, g]⟩ (Scalar.ofBits .f32 0x00000000#32)) e)) hc) hs)))

/-- The codes are the ones the kernel's words give. -/
theorem refCode_apply (v : FVec Ideal ⟨3, ![n, g, 128]⟩ .f32) (r : Fin n) (j : Fin g) (k : Fin 128) :
    refCode hc hs v (refE hr hi hc hb hq v) (ix3 r j k) = qcode (fun k => v (ix3 r j k)) k := by
  have e : exp2 (subf (broadcast ⟨2, ![n, g]⟩ (Scalar.ofBits .f32 0x00000000#32)) (refE hr hi hc hb hq v)) (ix2 r j)
      = kinv (bound fun k => v (ix3 r j k)) := by
    unfold refE
    rw [exp2_at, subf_apply, refExp_apply, refBound_apply, broadcast_at]
    exact (kinv_eq_rinv _ (bound_nonneg _)).symm
  unfold refCode
  rw [minimumf_apply, maximumf_apply, mulf_apply, spread3_apply, column_apply, e, broadcast_at, broadcast_at]
  unfold qcode
  exact Eq.refl _

/-- A flat row's place in its groups, -/
theorem groups_apply {α : Type} {l : ℕ} (x : (⟨2, ![n, l]⟩ : Shape).Idx → α) (h : (⟨2, ![n, l]⟩ : Shape).ShapeCasts ⟨3, ![n, g, 128]⟩)
    (hl : l = g * 128) (r : Fin n) (j : Fin g) (k : Fin 128) :
    shapeCast ⟨3, ![n, g, 128]⟩ x h (ix3 r j k) = x (ix2 r ⟨128 * j.val + k.val, by have := j.isLt; omega⟩) :=
  shapeCast_apply x h (ix3 r j k) _ (by
    subst hl
    rw [Shape.rowMajor_val_three, Shape.rowMajor_val_two]
    show r.val * (g * 128) + (128 * j.val + k.val) = (r.val * g + j.val) * 128 + k.val
    ring)

/-- and back. -/
theorem flat_apply {α : Type} {l : ℕ} (x : (⟨3, ![n, g, 128]⟩ : Shape).Idx → α) (h : (⟨3, ![n, g, 128]⟩ : Shape).ShapeCasts ⟨2, ![n, l]⟩)
    (hl : l = g * 128) (r : Fin n) (c : Fin l) :
    shapeCast ⟨2, ![n, l]⟩ x h (ix2 r c) = x (ix3 r ⟨c.val / 128, by have := c.isLt; omega⟩ ⟨c.val % 128, by omega⟩) :=
  shapeCast_apply x h (ix2 r c) _ (by
    subst hl
    rw [Shape.rowMajor_val_three, Shape.rowMajor_val_two]
    show (r.val * g + c.val / 128) * 128 + c.val % 128 = r.val * (g * 128) + c.val
    have := Nat.div_add_mod c.val 128
    linear_combination this)

end

end Cert.Spec

end
-- ==== Proof.RefPayloads.lean ====
/- What the reference's body computes of its three blocks, read at an index. -/
module

public import proofs.«01_k».proof.Proof.Gen.ReferenceIdeal.Frame
public import proofs.«01_k».proof.Proof.RefQuant
public import Idealize.ShloMosaic.Lib.Pointwise.Contract

@[expose] public section

set_option maxRecDepth 16384

noncomputable section

namespace Cert.ReferenceIdeal.Gen

open Idealize.ShloMosaic.TcCoe Idealize.ShloMosaic.ValueIdx Cert.Spec
open Idealize.ShloMosaic hiding ix1 ix2 ix3 ix4 eq_ix1 eq_ix2 eq_ix3 eq_ix4

/-- Narrowing changes no ideal value. -/
theorem narrow_at {t : Shape} (v : FVec Ideal t .f32) (h : FTy.bf16.bits < FTy.f32.bits) (i : t.Idx) : truncf .bf16 v h i = v i := rfl

/-- An array of rows in groups of 128. -/
theorem pay1_apply (x : Vec Ideal S16384x4096 .bf16) (r : Fin 16384) (j : Fin 32) (k : Fin 128) :
    k0_pay1 (F := Ideal) x (ix3 r j k) = x (ix2 r ⟨128 * j.val + k.val, by omega⟩) := by
  unfold k0_pay1
  refine (groups_apply (n := 16384) (g := 32) (l := 4096) _ shapeCasts_S16384x4096_S16384x32x128 (by decide) r j k).trans ?_
  exact congrFun (shapeCast_self x shapeCasts_S16384x4096_S16384x4096) _

/-- Group `j` of row `r` of the array. -/
theorem pay1_group (x : Vec Ideal S16384x4096 .bf16) (r : Fin 16384) (j : Fin 32) :
    (fun k : Fin 128 => k0_pay1 (F := Ideal) x (ix3 r j k)) = grp (fun k => x (ix2 r k)) j :=
  funext fun k => pay1_apply x r j k

/-- The exponents are the quantiser's. -/
theorem pay2_eq (x : Vec Ideal S16384x4096 .bf16) :
    k0_pay2 (F := Ideal) x = refE reduces_S16384x32x128_S16384x32 iota_S16384x32x246_d2_w32 shapeCasts_S16384x32_S16384x32x1
      broadcasts_S16384x32x1_S16384x32x246 reduces_S16384x32x246_S16384x32 (k0_pay1 (F := Ideal) x) := rfl

/-- The scales of `x`, -/
theorem pay3_apply (x : Vec Ideal S16384x4096 .bf16) (r : Fin 16384) (j : Fin 32) :
    k0_pay3 (F := Ideal) x (ix2 r j) = xscale (fun k => x (ix2 r k)) j := by
  unfold k0_pay3
  rw [pay2_eq]
  refine (refScale_apply _ _ _ _ _ (k0_pay1 (F := Ideal) x) r j).trans ?_
  rw [pay1_group]; rfl

/-- its codes, -/
theorem pay4_apply (x : Vec Ideal S16384x4096 .bf16) (r : Fin 16384) (c : Fin 4096) :
    k0_pay4 (F := Ideal) x (ix2 r c) = xcode (fun k => x (ix2 r k)) c := by
  have e : k0_pay4 (F := Ideal) x = shapeCast S16384x4096 (refCode shapeCasts_S16384x32_S16384x32x1 broadcasts_S16384x32x1_S16384x32x128
      (k0_pay1 (F := Ideal) x) (k0_pay2 (F := Ideal) x)) shapeCasts_S16384x32x128_S16384x4096 := rfl
  rw [e, pay2_eq]
  refine (flat_apply (n := 16384) (g := 32) (l := 4096) _ shapeCasts_S16384x32x128_S16384x4096 (by decide) r c).trans ?_
  refine (refCode_apply _ _ _ _ _ _ (k0_pay1 (F := Ideal) x) r _ _).trans ?_
  rw [pay1_group]; rfl

/-- and the rows they stand for. -/
theorem pay5_apply (x : Vec Ideal S16384x4096 .bf16) (r : Fin 16384) (c : Fin 4096) :
    k0_pay5 (F := Ideal) x (ix2 r c) = xdeq (fun k => x (ix2 r k)) c := by
  unfold k0_pay5
  refine (flat_apply (n := 16384) (g := 32) (l := 4096) _ shapeCasts_S16384x32x128_S16384x4096 (by decide) r c).trans ?_
  rw [mulf_apply, spread3_apply, column_apply, narrow_at]
  unfold xdeq
  refine congrArg₂ (· * ·) ((groups_apply (n := 16384) (g := 32) (l := 4096) _ shapeCasts_S16384x4096_S16384x32x128 (by decide) r _ _).trans ?_) (pay3_apply x r (colGrp c))
  refine (congrArg (k0_pay4 (F := Ideal) x) (congrArg (fun q => (ix2 r q : S16384x4096.Idx)) (Fin.ext ?_))).trans (pay4_apply x r c)
  exact Nat.div_add_mod c.val 128

/-- The weights their codes and scales stand for. -/
theorem weights_apply (w : Vec Ideal S11008x4096 .fp8e4m3) (s : Vec Ideal S86x32 .f32) (q : Fin 11008) (c : Fin 4096) :
    (shapeCast S11008x4096 (mulf (k0_pay6 (F := Ideal) w) (broadcastTo S86x128x32x128
        (shapeCast S86x1x32x1 (truncf .bf16 (s : FVec Ideal S86x32 .f32) bitsLt_bf16_f32 : FVec Ideal S86x32 .bf16) shapeCasts_S86x32_S86x1x32x1) broadcasts_S86x1x32x1_S86x128x32x128))
      shapeCasts_S86x128x32x128_S11008x4096 : FVec Ideal S11008x4096 .bf16) (ix2 q c)
      = wdeq (fun k => w (ix2 q k)) (fun k => s (ix2 (⟨q.val / 128, by omega⟩ : Fin 86) k)) c := by
  have hq := q.isLt
  have hc := c.isLt
  refine (shapeCast_apply _ _ (ix2 q c) (ix4 (⟨q.val / 128, by omega⟩ : Fin 86) (⟨q.val % 128, by omega⟩ : Fin 128) (⟨c.val / 128, by omega⟩ : Fin 32) (⟨c.val % 128, by omega⟩ : Fin 128)) ?_).trans ?_
  · rw [Shape.rowMajor_val_four, Shape.rowMajor_val_two]
    show ((q.val / 128 * 128 + q.val % 128) * 32 + c.val / 128) * 128 + c.val % 128 = q.val * 4096 + c.val
    omega
  rw [mulf_apply]
  unfold wdeq
  refine congrArg₂ (· * ·) ?_ ?_
  · unfold k0_pay6
    refine (shapeCast_apply _ _ _ (ix2 q c : S11008x4096.Idx) ?_).trans rfl
    rw [Shape.rowMajor_val_four, Shape.rowMajor_val_two]
    show q.val * 4096 + c.val = ((q.val / 128 * 128 + q.val % 128) * 32 + c.val / 128) * 128 + c.val % 128
    omega
  · refine (broadcastTo_apply _ _ _ (ix4 (⟨q.val / 128, by omega⟩ : Fin 86) (0 : Fin 1) (⟨c.val / 128, by omega⟩ : Fin 32) (0 : Fin 1)) ?_).trans ?_
    · intro a
      match a with
      | ⟨0, _⟩ => rfl
      | ⟨1, _⟩ => rfl
      | ⟨2, _⟩ => rfl
      | ⟨3, _⟩ => rfl
    · refine (shapeCast_apply _ _ _ (ix2 (⟨q.val / 128, by omega⟩ : Fin 86) (⟨c.val / 128, by omega⟩ : Fin 32)) ?_).trans rfl
      rw [Shape.rowMajor_val_four, Shape.rowMajor_val_two]
      show q.val / 128 * 32 + c.val / 128 = ((q.val / 128 * 1 + 0) * 32 + c.val / 128) * 1 + 0
      omega

/-- The product of every row and every row of weights. -/
theorem product_apply (a : FVec Ideal S16384x4096 .bf16) (b : FVec Ideal S11008x4096 .bf16) (r : Fin 16384) (q : Fin 11008) :
    (matmul dot_S16384x4096_S11008x4096_S16384x11008_1_1_0_0_n_n none a b (constant S16384x11008 .f32 0x00000000#32) : FVec Ideal S16384x11008 .f32) (ix2 r q)
      = (∑ c : Fin 4096, a (ix2 r c) * b (ix2 q c) : EReal) := by
  refine (Ideal.matmul_apply₁_of dot_S16384x4096_S11008x4096_S16384x11008_1_1_0_0_n_n rfl rfl a b _ (ix2 r q) (fun c => ix2 r c) (fun c => ix2 q c) ?_ ?_).trans ?_
  · intro k
    funext a
    match a with
    | ⟨0, _⟩ => rfl
    | ⟨1, _⟩ => rfl
  · intro k
    funext a
    match a with
    | ⟨0, _⟩ => rfl
    | ⟨1, _⟩ => rfl
  · exact (congrArg (· + _) ofBits_zero).trans (zero_add _)

/-- Gate and up out of the product, through the gate's logistic. -/
theorem gateUp_apply (P : FVec Ideal S16384x11008 .f32) (r : Fin 16384) (c : Fin 5504) :
    mulf (mulf (extractStridedSlice S16384x5504 ![0, 0] P slices_S16384x11008_o0_0_S16384x5504)
        (logistic (extractStridedSlice S16384x5504 ![0, 0] P slices_S16384x11008_o0_0_S16384x5504)))
      (extractStridedSlice S16384x5504 ![0, 5504] P slices_S16384x11008_o0_5504_S16384x5504) (ix2 r c)
      = swiglu (P (ix2 r ⟨c.val, by omega⟩)) (P (ix2 r ⟨5504 + c.val, by omega⟩)) := by
  have eg : extractStridedSlice S16384x5504 ![0, 0] P slices_S16384x11008_o0_0_S16384x5504 (ix2 r c) = P (ix2 r ⟨c.val, by omega⟩) := by
    refine congrArg P (funext fun a => Fin.ext ?_)
    match a with
    | ⟨0, _⟩ => exact Nat.zero_add _
    | ⟨1, _⟩ => exact Nat.zero_add _
  have eu : extractStridedSlice S16384x5504 ![0, 5504] P slices_S16384x11008_o0_5504_S16384x5504 (ix2 r c) = P (ix2 r ⟨5504 + c.val, by omega⟩) := by
    refine congrArg P (funext fun a => Fin.ext ?_)
    match a with
    | ⟨0, _⟩ => exact Nat.zero_add _
    | ⟨1, _⟩ => rfl
  have el : logistic (extractStridedSlice S16384x5504 ![0, 0] P slices_S16384x11008_o0_0_S16384x5504) (ix2 r c)
      = Ideal.logistic (extractStridedSlice S16384x5504 ![0, 0] P slices_S16384x11008_o0_0_S16384x5504 (ix2 r c)) := rfl
  rw [mulf_apply, mulf_apply, el, eg, eu]
  rfl

variable (x : Vec Ideal S16384x4096 .bf16) (w : Vec Ideal S11008x4096 .fp8e4m3) (s : Vec Ideal S86x32 .f32)

/-- A group of a hidden row. -/
theorem pay7_group (r : Fin 16384) (j : Fin 43) :
    (fun k : Fin 128 => k0_pay7 (F := Ideal) (k0_pay5 (F := Ideal) x) (k0_pay6 (F := Ideal) w) s (ix3 r j k))
      = hrow (fun r k => x (ix2 r k)) (fun r k => w (ix2 r k)) (fun r k => s (ix2 r k)) r j := by
  funext k
  unfold k0_pay7
  refine (groups_apply (n := 16384) (g := 43) (l := 5504) _ shapeCasts_S16384x5504_S16384x43x128 (by decide) r j k).trans ?_
  refine (gateUp_apply _ r _).trans ?_
  unfold hrow dotRow
  refine congrArg₂ swiglu ((product_apply _ _ r _).trans (Finset.sum_congr rfl fun e _ => congrArg₂ (· * ·) (pay5_apply x r e) ((weights_apply w s _ e).trans ?_)))
    ((product_apply _ _ r _).trans (Finset.sum_congr rfl fun e _ => congrArg₂ (· * ·) (pay5_apply x r e) ((weights_apply w s _ e).trans ?_)))
  · refine congrArg (fun q => wdeq _ (fun k => s (ix2 q k)) e) (Fin.ext ?_)
    show (128 * j.val + k.val) / 128 = j.val
    omega
  · refine congr (congrArg₂ wdeq (congrArg (fun q => fun k => w (ix2 q k)) (Fin.ext ?_)) (congrArg (fun q => fun k => s (ix2 q k)) (Fin.ext ?_))) rfl
    · show 5504 + (128 * j.val + k.val) = 5504 + 128 * j.val + k.val
      omega
    · show (5504 + (128 * j.val + k.val)) / 128 = j.val + 43
      omega

theorem pay8_eq : k0_pay8 (F := Ideal) (k0_pay5 (F := Ideal) x) (k0_pay6 (F := Ideal) w) s
    = refE reduces_S16384x43x128_S16384x43 iota_S16384x43x246_d2_w32 shapeCasts_S16384x43_S16384x43x1 broadcasts_S16384x43x1_S16384x43x246
      reduces_S16384x43x246_S16384x43 (k0_pay7 (F := Ideal) (k0_pay5 (F := Ideal) x) (k0_pay6 (F := Ideal) w) s) := rfl

/-- The hidden rows' scales -/
theorem pay9_apply (r : Fin 16384) (j : Fin 43) : k0_pay9 (F := Ideal) (k0_pay5 (F := Ideal) x) (k0_pay6 (F := Ideal) w) s (ix2 r j)
    = hscaleAt (fun r k => x (ix2 r k)) (fun r k => w (ix2 r k)) (fun r k => s (ix2 r k)) r j := by
  unfold k0_pay9
  rw [pay8_eq]
  refine (refScale_apply _ _ _ _ _ _ r j).trans ?_
  rw [pay7_group]; rfl

/-- and their codes. -/
theorem pay10_apply (r : Fin 16384) (c : Fin 5504) : k0_pay10 (F := Ideal) (k0_pay5 (F := Ideal) x) (k0_pay6 (F := Ideal) w) s (ix2 r c)
    = hcodeAt (fun r k => x (ix2 r k)) (fun r k => w (ix2 r k)) (fun r k => s (ix2 r k)) r c := by
  have e : k0_pay10 (F := Ideal) (k0_pay5 (F := Ideal) x) (k0_pay6 (F := Ideal) w) s
      = shapeCast S16384x5504 (refCode shapeCasts_S16384x43_S16384x43x1 broadcasts_S16384x43x1_S16384x43x128
        (k0_pay7 (F := Ideal) (k0_pay5 (F := Ideal) x) (k0_pay6 (F := Ideal) w) s) (k0_pay8 (F := Ideal) (k0_pay5 (F := Ideal) x) (k0_pay6 (F := Ideal) w) s))
        shapeCasts_S16384x43x128_S16384x5504 := rfl
  rw [e, pay8_eq]
  refine (flat_apply (n := 16384) (g := 43) (l := 5504) _ shapeCasts_S16384x43x128_S16384x5504 (by decide) r c).trans ?_
  refine (refCode_apply _ _ _ _ _ _ _ r _ _).trans ?_
  rw [pay7_group]; rfl

end Cert.ReferenceIdeal.Gen

end
-- ==== Proof.RefValue.lean ====
/- The four results of the reference, as whole arrays. -/
module

public import proofs.«01_k».proof.Proof.RefPayloads
public import proofs.«01_k».proof.Proof.Gen.ReferenceIdeal.Value
public import Idealize.ShloMosaic.Lib.Pipeline.ValueKit

@[expose] public section

set_option maxRecDepth 16384

noncomputable section

namespace Cert.ReferenceIdeal.Gen

open Idealize.ShloMosaic.TcCoe Idealize.ShloMosaic.ValueIdx Cert.Spec
open Idealize.ShloMosaic hiding ix1 ix2 ix3 ix4 eq_ix1 eq_ix2 eq_ix3 eq_ix4
open Idealize.SL.Sem

/-! Each window is its whole array. -/

theorem ridx0 : ∀ t : Fin grid0.N, win0_0.index t = ![0, 0] := by decide +kernel
theorem ridx1 : ∀ t : Fin grid0.N, win0_1.index t = ![0, 0] := by decide +kernel
theorem ridx2 : ∀ t : Fin grid0.N, win0_2.index t = ![0, 0] := by decide +kernel
theorem ridx3 : ∀ t : Fin grid0.N, win0_3.index t = ![0, 0] := by decide +kernel
theorem ridx4 : ∀ t : Fin grid0.N, win0_4.index t = ![0, 0] := by decide +kernel
theorem ridx5 : ∀ t : Fin grid0.N, win0_5.index t = ![0, 0] := by decide +kernel
theorem ridx6 : ∀ t : Fin grid0.N, win0_6.index t = ![0, 0] := by decide +kernel

variable (m : (ℓ : Loc nD τ sig) → Buf (Elt Ideal) ℓ) (ρ : Dev nD → PrngReg) (c : Dev nD)

theorem rblk0 (t : Fin cfg0.N) : iblk m c 0 t = (V m c main_v0 : S16384x4096.Idx → EReal) := by
  funext y
  unfold iblk
  rw [View.read_apply]
  blk_ext [ridx0 t] <;> omega

theorem rblk1 (t : Fin cfg0.N) : iblk m c 1 t = (V m c main_arg1 : S11008x4096.Idx → EReal) := by
  funext y
  unfold iblk
  rw [View.read_apply]
  blk_ext [ridx1 t] <;> omega

theorem rblk2 (t : Fin cfg0.N) : iblk m c 2 t = (V m c main_arg2 : S86x32.Idx → EReal) := by
  funext y
  unfold iblk
  rw [View.read_apply]
  blk_ext [ridx2 t] <;> omega

/-- The rows of `x` as the region finds them, -/
def XR (r : Fin 16384) (k : Fin 4096) : EReal := V m c main_v0 (ix2 r k : S16384x4096.Idx)

/-- the rows of weights -/
def WR (r : Fin 11008) (k : Fin 4096) : EReal := V m c main_arg1 (ix2 r k : S11008x4096.Idx)

/-- and their scales. -/
def SR (r : Fin 86) (k : Fin 32) : EReal := V m c main_arg2 (ix2 r k : S86x32.Idx)

section

variable (x0 : Vec Ideal S16384x4096 .bf16) (x1 : Vec Ideal S11008x4096 .fp8e4m3) (x2 : Vec Ideal S86x32 .f32)

theorem out3_eq : out0_3 (F := Ideal) x0 x1 x2 = k0_pay10 (F := Ideal) (k0_pay5 (F := Ideal) x0) (k0_pay6 (F := Ideal) x1) x2 := by
  unfold_out out0_3
  frame_out

theorem out4_eq : out0_4 (F := Ideal) x0 x1 x2 = k0_pay9 (F := Ideal) (k0_pay5 (F := Ideal) x0) (k0_pay6 (F := Ideal) x1) x2 := by
  unfold_out out0_4
  frame_out

theorem out5_eq : out0_5 (F := Ideal) x0 x1 x2 = k0_pay4 (F := Ideal) x0 := by
  unfold_out out0_5
  frame_out

theorem out6_eq : out0_6 (F := Ideal) x0 x1 x2 = k0_pay3 (F := Ideal) x0 := by
  unfold_out out0_6
  frame_out

end

/-- The array of hidden codes, -/
theorem ref_hcodes : (dats m 0 c).arrAt 3 cfg0.N = fun y : S16384x5504.Idx => hcodeAt (XR m c) (WR m c) (SR m c) (y 0) (y 1) := by
  refine (dats m 0 c).arrAt_eq_of_covers 3 _ (by decide +kernel) fun t hf y => ?_
  blk_simp
  rw [after0_3, out3_eq, rblk0 m c t, rblk1 m c t, rblk2 m c t]
  have e : ((cfg0.win 3).blk t).view.emb y = y := by blk_ext [ridx3 t] <;> omega
  rw [e]
  exact (congrArg _ (eq_ix2 y)).trans (pay10_apply _ _ _ (y 0) (y 1))

/-- the array of hidden scales, -/
theorem ref_hscales : (dats m 0 c).arrAt 4 cfg0.N = fun y : S16384x43.Idx => hscaleAt (XR m c) (WR m c) (SR m c) (y 0) (y 1) := by
  refine (dats m 0 c).arrAt_eq_of_covers 4 _ (by decide +kernel) fun t hf y => ?_
  blk_simp
  rw [after0_4, out4_eq, rblk0 m c t, rblk1 m c t, rblk2 m c t]
  have e : ((cfg0.win 4).blk t).view.emb y = y := by blk_ext [ridx4 t] <;> omega
  rw [e]
  exact (congrArg _ (eq_ix2 y)).trans (pay9_apply _ _ _ (y 0) (y 1))

/-- the array of codes of `x`, -/
theorem ref_xcodes : (dats m 0 c).arrAt 5 cfg0.N = fun y : S16384x4096.Idx => xcode (XR m c (y 0)) (y 1) := by
  refine (dats m 0 c).arrAt_eq_of_covers 5 _ (by decide +kernel) fun t hf y => ?_
  blk_simp
  rw [after0_5, out5_eq, rblk0 m c t]
  have e : ((cfg0.win 5).blk t).view.emb y = y := by blk_ext [ridx5 t] <;> omega
  rw [e]
  exact (congrArg _ (eq_ix2 y)).trans (pay4_apply _ (y 0) (y 1))

/-- and the array of its scales. -/
theorem ref_xscales : (dats m 0 c).arrAt 6 cfg0.N = fun y : S16384x32.Idx => xscale (XR m c (y 0)) (y 1) := by
  refine (dats m 0 c).arrAt_eq_of_covers 6 _ (by decide +kernel) fun t hf y => ?_
  blk_simp
  rw [after0_6, out6_eq, rblk0 m c t]
  have e : ((cfg0.win 6).blk t).view.emb y = y := by blk_ext [ridx6 t] <;> omega
  rw [e]
  exact (congrArg _ (eq_ix2 y)).trans (pay3_apply _ (y 0) (y 1))

end Cert.ReferenceIdeal.Gen

end
-- ==== Proof.Algebraic.lean ====
/- The idealized kernel and the reference leave the same four results. -/
module

public import proofs.«01_k».proof.Defs
public import proofs.«01_k».proof.Proof.KernelValue
public import proofs.«01_k».proof.Proof.RefValue

@[expose] public section

set_option maxRecDepth 16384

noncomputable section

namespace Cert.Proof

open Idealize.ShloMosaic.TcCoe Idealize.ShloMosaic.ValueIdx Cert.Spec
open Idealize.ShloMosaic hiding ix1 ix2 ix3 ix4 eq_ix1 eq_ix2 eq_ix3 eq_ix4
open Idealize.SL.Sem

/-- The kernel's rows are the first argument's, its two leading axes taken as one. -/
theorem kernel_rows (m : (ℓ : Loc KernelIdeal.nD KernelIdeal.τ KernelIdeal.sig) → Buf (Elt Ideal) ℓ) (c : Dev KernelIdeal.nD) :
    KernelIdeal.Gen.V m c KernelIdeal.main_v0 = fun i => shapeCast KernelIdeal.S16384x4096 (m (c.tc.loc KernelIdeal.main_arg0) : KernelIdeal.S8x2048x4096.Idx → EReal)
      KernelIdeal.Gen.facts.shapeCasts_S8x2048x4096_S16384x4096 i := by
  unfold KernelIdeal.Gen.V KernelIdeal.Gen.hostOps0
  rw [StableHlo.after_cons, StableHlo.after_nil]
  exact StableHlo.reshape_result KernelIdeal.main_arg0 KernelIdeal.main_v0 rfl _ _ _ _

/-- So are the reference's. -/
theorem reference_rows (m : (ℓ : Loc ReferenceIdeal.nD ReferenceIdeal.τ ReferenceIdeal.sig) → Buf (Elt Ideal) ℓ) (c : Dev ReferenceIdeal.nD) :
    ReferenceIdeal.Gen.V m c ReferenceIdeal.main_v0 = fun i => shapeCast ReferenceIdeal.S16384x4096 (m (c.tc.loc ReferenceIdeal.main_arg0) : ReferenceIdeal.S8x2048x4096.Idx → EReal)
      ReferenceIdeal.Gen.facts.shapeCasts_S8x2048x4096_S16384x4096 i := by
  unfold ReferenceIdeal.Gen.V ReferenceIdeal.Gen.hostOps0
  rw [StableHlo.after_cons, StableHlo.after_nil]
  exact StableHlo.reshape_result ReferenceIdeal.main_arg0 ReferenceIdeal.main_v0 rfl _ _ _ _

/-- From equal arguments both run, leave the same codes and scales of the hidden rows and of `x`, and keep their arguments. -/
theorem algebraic : @Cert.algebraic_KernelIdeal_ReferenceIdeal KernelIdeal.Gen.facts ReferenceIdeal.Gen.facts := by
  intro m g m' g' _ hargs
  have hX : ∀ c, ReferenceIdeal.Gen.XR m' c = KernelIdeal.Gen.XA m c := fun c => by
    funext r k
    unfold ReferenceIdeal.Gen.XR KernelIdeal.Gen.XA
    rw [reference_rows, kernel_rows, (hargs c).1]
  have hW : ∀ c, ReferenceIdeal.Gen.WR m' c = KernelIdeal.Gen.WA m c := fun c => by
    funext r k
    unfold ReferenceIdeal.Gen.WR KernelIdeal.Gen.WA
    rw [ReferenceIdeal.Gen.V_main_arg1, KernelIdeal.Gen.V_main_arg1, (hargs c).2.1]
  have hS : ∀ c, ReferenceIdeal.Gen.SR m' c = KernelIdeal.Gen.SA m c := fun c => by
    funext r k
    unfold ReferenceIdeal.Gen.SR KernelIdeal.Gen.SA
    rw [ReferenceIdeal.Gen.V_main_arg2, KernelIdeal.Gen.V_main_arg2, (hargs c).2.2]
  refine ⟨_, _, _, _, KernelIdeal.Gen.run_values m g, (θ_run _ _ _).mono (fun r hr c => ?_) (ReferenceIdeal.Value.run_blocks m' g')⟩
  obtain ⟨h0, h1, h2, h3, ha⟩ := hr c
  refine ⟨(h0.trans (ReferenceIdeal.Gen.ref_hcodes m' c)).trans ?_, (h1.trans (ReferenceIdeal.Gen.ref_hscales m' c)).trans ?_,
    (h2.trans (ReferenceIdeal.Gen.ref_xcodes m' c)).trans ?_, (h3.trans (ReferenceIdeal.Gen.ref_xscales m' c)).trans ?_, ha⟩
  · rw [hX c, hW c, hS c]
  · rw [hX c, hW c, hS c]
  · rw [hX c]
  · rw [hX c]

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.KernelFrame
public import proofs.«01_k».proof.Proof.IdealFrame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The three frames, the idealization's ledger, and the equality of the kernel's and the reference's four results. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, trivial, algebraic⟩

end Cert.Proof

end
